-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x5120 : Shape := ⟨3, ![6, 2048, 5120]⟩
abbrev S5120x3456 : Shape := ⟨2, ![5120, 3456]⟩
abbrev S3456 : Shape := ⟨1, ![3456]⟩
abbrev S1x3456 : Shape := ⟨2, ![1, 3456]⟩
abbrev S1x1728 : Shape := ⟨2, ![1, 1728]⟩
abbrev S_ : Shape := ⟨0, ![]⟩
abbrev S1x1792 : Shape := ⟨2, ![1, 1792]⟩
abbrev S1x3584 : Shape := ⟨2, ![1, 3584]⟩
abbrev S12288x5120 : Shape := ⟨2, ![12288, 5120]⟩
abbrev S12288x1 : Shape := ⟨2, ![12288, 1]⟩
abbrev S12288x1728 : Shape := ⟨2, ![12288, 1728]⟩
abbrev S256x5120 : Shape := ⟨2, ![256, 5120]⟩
abbrev S256x1 : Shape := ⟨2, ![256, 1]⟩
abbrev S256x1728 : Shape := ⟨2, ![256, 1728]⟩
abbrev S256 : Shape := ⟨1, ![256]⟩
abbrev S5120x64 : Shape := ⟨2, ![5120, 64]⟩
abbrev S5120x1728 : Shape := ⟨2, ![5120, 1728]⟩
abbrev S5120x3584 : Shape := ⟨2, ![5120, 3584]⟩
abbrev S256x3584 : Shape := ⟨2, ![256, 3584]⟩
abbrev S256x1792 : Shape := ⟨2, ![256, 1792]⟩

abbrev nBuf : Space → Nat
  | .hbm => 18
  | .vmem => 12
  | .smem => 0
  | _ => 0

abbrev bufTy : (tb : Table) → Fin (tcTables nBuf tb) → BufTy
  | .hbm, ⟨0, _⟩ => ⟨S6x2048x5120, .bf16⟩
  | .hbm, ⟨1, _⟩ => ⟨S5120x3456, .fp8e4m3⟩
  | .hbm, ⟨2, _⟩ => ⟨S3456, .f32⟩
  | .hbm, ⟨3, _⟩ => ⟨S1x3456, .f32⟩
  | .hbm, ⟨4, _⟩ => ⟨S1x1728, .f32⟩
  | .hbm, ⟨5, _⟩ => ⟨S_, .i32⟩
  | .hbm, ⟨6, _⟩ => ⟨S_, .f32⟩
  | .hbm, ⟨7, _⟩ => ⟨S1x1792, .f32⟩
  | .hbm, ⟨8, _⟩ => ⟨S1x1728, .f32⟩
  | .hbm, ⟨9, _⟩ => ⟨S_, .i32⟩
  | .hbm, ⟨10, _⟩ => ⟨S_, .f32⟩
  | .hbm, ⟨11, _⟩ => ⟨S1x1792, .f32⟩
  | .hbm, ⟨12, _⟩ => ⟨S1x3584, .f32⟩
  | .hbm, ⟨13, _⟩ => ⟨S12288x5120, .bf16⟩
  | .hbm, ⟨14, _⟩ => ⟨S12288x1, .f32⟩
  | .hbm, ⟨15, _⟩ => ⟨S12288x1728, .fp8e4m3⟩
  | .hbm, ⟨16, _⟩ => ⟨S12288x5120, .fp8e4m3⟩
  | .hbm, ⟨17, _⟩ => ⟨S12288x1, .f32⟩
  | .local _ .vmem, ⟨0, _⟩ => ⟨S256x5120, .bf16⟩
  | .local _ .vmem, ⟨1, _⟩ => ⟨S256x5120, .bf16⟩
  | .local _ .vmem, ⟨2, _⟩ => ⟨S5120x3456, .fp8e4m3⟩
  | .local _ .vmem, ⟨3, _⟩ => ⟨S1x3584, .f32⟩
  | .local _ .vmem, ⟨4, _⟩ => ⟨S256x1, .f32⟩
  | .local _ .vmem, ⟨5, _⟩ => ⟨S256x1, .f32⟩
  | .local _ .vmem, ⟨6, _⟩ => ⟨S256x1728, .fp8e4m3⟩
  | .local _ .vmem, ⟨7, _⟩ => ⟨S256x1728, .fp8e4m3⟩
  | .local _ .vmem, ⟨8, _⟩ => ⟨S256x5120, .fp8e4m3⟩
  | .local _ .vmem, ⟨9, _⟩ => ⟨S256x5120, .fp8e4m3⟩
  | .local _ .vmem, ⟨10, _⟩ => ⟨S256x1, .f32⟩
  | .local _ .vmem, ⟨11, _⟩ => ⟨S256x1, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x3456 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1728 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x2048x5120 : Shape := ⟨3, ![6, 2048, 5120]⟩
abbrev S5120x3456 : Shape := ⟨2, ![5120, 3456]⟩
abbrev S3456 : Shape := ⟨1, ![3456]⟩
abbrev S12288x5120 : Shape := ⟨2, ![12288, 5120]⟩
abbrev S1x3456 : Shape := ⟨2, ![1, 3456]⟩
abbrev S12288x1 : Shape := ⟨2, ![12288, 1]⟩
abbrev S12288x1728 : Shape := ⟨2, ![12288, 1728]⟩
abbrev S12288 : Shape := ⟨1, ![12288]⟩
abbrev S12288x246 : Shape := ⟨2, ![12288, 246]⟩
abbrev S12288x3456 : Shape := ⟨2, ![12288, 3456]⟩

abbrev nBuf : Space → Nat
  | .hbm => 9
  | .vmem => 7
  | .smem => 0
  | _ => 0

abbrev bufTy : (tb : Table) → Fin (tcTables nBuf tb) → BufTy
  | .hbm, ⟨0, _⟩ => ⟨S6x2048x5120, .bf16⟩
  | .hbm, ⟨1, _⟩ => ⟨S5120x3456, .fp8e4m3⟩
  | .hbm, ⟨2, _⟩ => ⟨S3456, .f32⟩
  | .hbm, ⟨3, _⟩ => ⟨S12288x5120, .bf16⟩
  | .hbm, ⟨4, _⟩ => ⟨S1x3456, .f32⟩
  | .hbm, ⟨5, _⟩ => ⟨S12288x1, .f32⟩
  | .hbm, ⟨6, _⟩ => ⟨S12288x1728, .fp8e4m3⟩
  | .hbm, ⟨7, _⟩ => ⟨S12288x5120, .fp8e4m3⟩
  | .hbm, ⟨8, _⟩ => ⟨S12288x1, .f32⟩
  | .local _ .vmem, ⟨0, _⟩ => ⟨S12288x5120, .bf16⟩
  | .local _ .vmem, ⟨1, _⟩ => ⟨S5120x3456, .fp8e4m3⟩
  | .local _ .vmem, ⟨2, _⟩ => ⟨S1x3456, .f32⟩
  | .local _ .vmem, ⟨3, _⟩ => ⟨S12288x1, .f32⟩
  | .local _ .vmem, ⟨4, _⟩ => ⟨S12288x1728, .fp8e4m3⟩
  | .local _ .vmem, ⟨5, _⟩ => ⟨S12288x5120, .fp8e4m3⟩
  | .local _ .vmem, ⟨6, _⟩ => ⟨S12288x1, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x3456 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1728 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pow2.lean ====
/- The power-of-two scale of a row, as pure mathematics on the extended reals.

   Two ways of taking the exponent `e` with `2 ^ e ≤ t < 2 ^ (e + 1)` of a number `t`, and the scale and
   inverse scale each makes of it, are shown to agree for EVERY extended real `t`:

   * the search: a binary search for the largest exponent field whose power of two is at most `t`, the
     field put back into a float by a shift and a reinterpretation of the word;
   * the count: how many of `2 ^ (-126), …, 2 ^ 119` are at most `t`, less 127, and `exp2` of that integer.

   Both use the scale 1 where `t` is below `2 ^ (-126)`, at least `2 ^ 120`, or where the row is zero. -/
module

public import Idealize.ShloMosaic.PureOps.Ideal
public import Idealize.ShloMosaic.Lib.Pointwise
public import Idealize.ShloMosaic.Lib.IndicatorCount

@[expose] public section

set_option maxRecDepth 16384

noncomputable section

namespace Cert.Pow2

open Idealize.ShloMosaic

/-! ## The powers of two -/

/-- What the word with exponent field `k` and nothing else set denotes: 0 for `k = 0`, `2 ^ (k - 127)` up to
    254, and infinity at 255. -/
def T (k : ℕ) : EReal :=
  if k = 0 then 0 else if k = 255 then ⊤ else (((2 : ℝ) ^ ((k : ℤ) - 127) : ℝ) : EReal)

/-- The word whose exponent field is `k`. -/
def fieldWord (k : BitVec 32) : BitVec 32 := IntOp.shli .vector k 23#32

/-- The three fields of the word whose exponent field is `k`. -/
theorem fields (k : Fin 256) :
    (((fieldWord (BitVec.ofNat 32 k)).extractLsb' 31 1 == 1#1) = false)
    ∧ ((fieldWord (BitVec.ofNat 32 k)).extractLsb' 23 8).toNat = k
    ∧ ((fieldWord (BitVec.ofNat 32 k)).extractLsb' 0 23).toNat = 0 := by
  revert k; decide +kernel

/-- A choice made on a decided proposition, where it holds and where it does not. -/
theorem select_pos {α : Type} {p : Prop} [Decidable p] (h : p) (a b : α) : Scalar.select (BitVec.ofBool (decide p)) a b = a := by
  rw [decide_eq_true h]; rfl
/-- A select on a false proposition takes its second value. -/
theorem select_neg {α : Type} {p : Prop} [Decidable p] (h : ¬ p) (a b : α) : Scalar.select (BitVec.ofBool (decide p)) a b = b := by
  rw [decide_eq_false h]; rfl

/-- The normal number with a zero fraction is its power of two. -/
theorem pow_shift (k : ℕ) : (1 : ℝ) * ((2 ^ 23 + 0 : ℕ) : ℝ) * (2 : ℝ) ^ ((k : ℤ) - (2 ^ (8 - 1) - 1) - (23 : ℕ)) = (2 : ℝ) ^ ((k : ℤ) - 127) := by
  have h : ((2 ^ 23 + 0 : ℕ) : ℝ) = (2 : ℝ) ^ (23 : ℤ) := by norm_num
  rw [h, one_mul, ← zpow_add₀ (by norm_num)]
  congr 1; push_cast; ring

/-- The word whose exponent field is `k` denotes `T k`. -/
theorem ofBits_fieldWord (k : ℕ) (hk : k < 256) :
    Ideal.ofBits .f32 (fieldWord (BitVec.ofNat 32 k)) = T k := by
  obtain ⟨h1, h2, h3⟩ := fields ⟨k, hk⟩
  show Ideal.ieee 8 23 (fieldWord (BitVec.ofNat 32 k)) = T k
  generalize fieldWord (BitVec.ofNat 32 k) = b at h1 h2 h3
  change (b.extractLsb' (8 + 23) 1 == 1#1) = false at h1
  unfold Ideal.ieee T
  rw [h1, h2, h3]
  dsimp only
  by_cases h0 : k = 0
  · rw [if_neg (by rw [h0]; decide), if_pos h0, if_pos h0, Nat.cast_zero, mul_zero, zero_mul, EReal.coe_zero]
  rw [if_neg h0, if_neg h0]
  by_cases h255 : k = 255
  · rw [if_pos (show k = 2 ^ 8 - 1 from h255), if_pos h255, if_pos rfl, if_neg (by decide)]
  · rw [if_neg (show ¬ k = 2 ^ 8 - 1 from h255), if_neg h255, if_neg (by decide), pow_shift]

/-- `T` is increasing on the fields 1 to 255. -/
theorem T_mono {j k : ℕ} (hj : 1 ≤ j) (hjk : j ≤ k) (hk : k ≤ 255) : T j ≤ T k := by
  unfold T
  rw [if_neg (by omega), if_neg (by omega : ¬ k = 0)]
  by_cases h : k = 255
  · rw [if_pos h]; exact le_top
  · rw [if_neg h, if_neg (by omega)]
    exact EReal.coe_le_coe_iff.2 (zpow_le_zpow_right₀ (by norm_num) (by omega))

/-- `exp2` of the integer `k - 127` is `T k`, for the fields of the normal numbers. -/
theorem exp2_T (k : ℕ) (hk : 1 ≤ k) (hk' : k ≤ 254) (z : ℤ) (hz : z = (k : ℤ) - 127) :
    Ideal.exp2 ((z : ℝ) : EReal) = T k := by
  rw [Ideal.exp2_coe]
  unfold T
  rw [if_neg (by omega), if_neg (by omega), hz]
  exact congrArg _ (Real.rpow_intCast 2 _)

/-- How many of the fields 1 to 255 have their power of two at most `t`: the largest such field, or 0. -/
def top (t : EReal) : ℕ :=
  open Classical in Nat.findGreatest (fun k => k = 0 ∨ T k ≤ t) 255

/-- `top` is a field: it is below 256. -/
theorem top_lt (t : EReal) : top t < 256 := Nat.lt_succ_of_le (Nat.findGreatest_le 255)

/-- `T k ≤ t` exactly for the fields up to `top t`. -/
theorem T_le_iff (t : EReal) {k : ℕ} (hk : 1 ≤ k) (hk' : k ≤ 255) : T k ≤ t ↔ k ≤ top t := by
  classical
  constructor
  · intro h
    unfold top
    convert Nat.le_findGreatest (P := fun k => k = 0 ∨ T k ≤ t) hk' (Or.inr h)
  · intro h
    have hs : top t = 0 ∨ T (top t) ≤ t := by
      unfold top
      convert Nat.findGreatest_spec (P := fun k => k = 0 ∨ T k ≤ t) (Nat.zero_le 255) (Or.inl rfl)
    rcases hs with hs | hs
    · omega
    · exact (T_mono hk h (Nat.le_of_lt_succ (top_lt t))).trans hs

/-! ## The search -/

variable {F : FTy → Type} [FloatOps F]

/-- One step of the search: set the bit `b` of the field `e` if the power of two of the larger field is still
    at most `t`. -/
def step (t : F .f32) (b e : BitVec 32) : BitVec 32 :=
  Scalar.select (FloatOps.cmpf .oge t (FloatOps.ofBits .f32 (IntOp.shli .vector (IntOp.ori e b) 23#32))) (IntOp.ori e b) e

/-- The same step when only `N`, the largest field allowed, is known. -/
def pstep (N : Fin 256) (b e : BitVec 32) : BitVec 32 := if (e ||| b).toNat ≤ N then e ||| b else e

/-- The bits of the search, from the highest. -/
def search (t : F .f32) : BitVec 32 :=
  step t 1#32 (step t 2#32 (step t 4#32 (step t 8#32 (step t 16#32 (step t 32#32 (step t 64#32 (step t 128#32 0#32)))))))

/-- Joining the bits of two fields gives a field. -/
theorem or_lt {e b : BitVec 32} (he : e.toNat < 256) (hb : b.toNat < 256) : (e ||| b).toNat < 256 := by
  rw [BitVec.toNat_or]; exact Nat.or_lt_two_pow (n := 8) he hb

/-- A step on fields gives a field. -/
theorem pstep_lt (N : Fin 256) {e b : BitVec 32} (he : e.toNat < 256) (hb : b.toNat < 256) : (pstep N b e).toNat < 256 := by
  unfold pstep; split
  · exact or_lt he hb
  · exact he

/-- A step of the search depends on `t` only through `top t`. -/
theorem step_eq (t : EReal) {e b : BitVec 32} (he : e.toNat < 256) (hb : b.toNat < 256) (hb0 : 0 < b.toNat) :
    step (F := Ideal) t b e = pstep ⟨top t, top_lt t⟩ b e := by
  have h1 : (e ||| b).toNat < 256 := or_lt he hb
  have h0 : 1 ≤ (e ||| b).toNat := by
    rw [BitVec.toNat_or]; exact hb0.trans_le Nat.right_le_or
  have hT : Ideal.ofBits .f32 (IntOp.shli .vector (IntOp.ori e b) 23#32) = T (e ||| b).toNat := by
    have := ofBits_fieldWord (e ||| b).toNat h1
    rwa [BitVec.ofNat_toNat, BitVec.setWidth_eq] at this
  have hc := T_le_iff t h0 (by omega : (e ||| b).toNat ≤ 255)
  show Scalar.select (Ideal.cmp .oge t (Ideal.ofBits .f32 (IntOp.shli .vector (IntOp.ori e b) 23#32))) (e ||| b) e = _
  rw [hT]
  unfold Ideal.cmp pstep
  by_cases h : T (e ||| b).toNat ≤ t
  · exact (select_pos h _ _).trans (if_pos (hc.1 h)).symm
  · exact (select_neg h _ _).trans (if_neg fun hh => h (hc.2 hh)).symm

/-- The search on fields alone finds the largest field allowed. -/
theorem psearch (N : Fin 256) :
    pstep N 1#32 (pstep N 2#32 (pstep N 4#32 (pstep N 8#32 (pstep N 16#32 (pstep N 32#32 (pstep N 64#32 (pstep N 128#32 0#32)))))))
      = BitVec.ofNat 32 N := by
  revert N; decide +kernel

/-- THE SEARCH finds the largest field whose power of two is at most `t`. -/
theorem search_eq (t : EReal) : search (F := Ideal) t = BitVec.ofNat 32 (top t) := by
  unfold search
  have g : ∀ {e b : BitVec 32}, e.toNat < 256 → b.toNat < 256 → 0 < b.toNat →
      step (F := Ideal) t b e = pstep ⟨top t, top_lt t⟩ b e ∧ (pstep ⟨top t, top_lt t⟩ b e).toNat < 256 :=
    fun he hb hb0 => ⟨step_eq t he hb hb0, pstep_lt _ he hb⟩
  obtain ⟨e7, l7⟩ := g (e := 0#32) (b := 128#32) (by decide) (by decide) (by decide)
  obtain ⟨e6, l6⟩ := g (b := 64#32) l7 (by decide) (by decide)
  obtain ⟨e5, l5⟩ := g (b := 32#32) l6 (by decide) (by decide)
  obtain ⟨e4, l4⟩ := g (b := 16#32) l5 (by decide) (by decide)
  obtain ⟨e3, l3⟩ := g (b := 8#32) l4 (by decide) (by decide)
  obtain ⟨e2, l2⟩ := g (b := 4#32) l3 (by decide) (by decide)
  obtain ⟨e1, l1⟩ := g (b := 2#32) l2 (by decide) (by decide)
  obtain ⟨e0, _⟩ := g (b := 1#32) l1 (by decide) (by decide)
  rw [e7, e6, e5, e4, e3, e2, e1, e0]
  exact psearch ⟨top t, top_lt t⟩

/-! ## The count -/

/-- How many of `2 ^ (-126), …, 2 ^ 119` are at most `t`, as a word. -/
def count (t : F .f32) : BitVec 32 :=
  Finset.univ.fold IntOp.addi 0#32 fun k : Fin 246 =>
    (FloatOps.cmpf .oge t (FloatOps.exp2 (FloatOps.sitofp .f32 (IntOp.subi (BitVec.ofNat 32 k) 126#32)))).setWidth 32

/-- The exponents the count runs over, as integers. -/
theorem exps (k : Fin 246) : (IntOp.subi (BitVec.ofNat 32 k) 126#32).toInt = ((k : ℕ) : ℤ) - 126 := by
  revert k; decide +kernel

/-- THE COUNT is the largest field whose power of two is at most `t`, capped at 246. -/
theorem count_eq (t : EReal) : count (F := Ideal) t = BitVec.ofNat 32 (min (top t) 246) := by
  unfold count
  rw [IndicatorCount.fold_addi_setWidth_eq_card]
  congr 1
  have h : ∀ k : Fin 246, (FloatOps.cmpf (F := Ideal) (φ := .f32) .oge t (FloatOps.exp2 (F := Ideal) (φ := .f32)
      (FloatOps.sitofp (F := Ideal) .f32 (IntOp.subi (BitVec.ofNat 32 k) 126#32))) = 1#1) ↔ (k : ℕ) < top t := by
    intro k
    have hk : (k : ℕ) < 246 := k.isLt
    show BitVec.ofBool (decide (Ideal.exp2 (((IntOp.subi (BitVec.ofNat 32 k) 126#32).toInt : ℝ) : EReal) ≤ t)) = 1#1 ↔ _
    rw [exp2_T ((k : ℕ) + 1) (by omega) (by omega) _ (by rw [exps]; push_cast; ring)]
    have hc := T_le_iff t (k := (k : ℕ) + 1) (by omega) (by omega)
    rw [show ((k : ℕ) < top t) = ((k : ℕ) + 1 ≤ top t) from rfl, ← hc]
    by_cases hp : T ((k : ℕ) + 1) ≤ t
    · rw [decide_eq_true hp]; exact ⟨fun _ => hp, fun _ => rfl⟩
    · rw [decide_eq_false hp]; exact ⟨fun hh => absurd hh (by decide), fun hh => absurd hh hp⟩
  simp only [h]
  rw [Fin.card_filter_val_lt]
  exact min_comm _ _

/-! ## The two scales -/

/-- The exponent field the search's scale is made from: 126 (the scale 1) where the field found is 0, where
    `t` is at least `2 ^ 120`, and where the row's largest magnitude `a` is zero. -/
def fieldOf (a t : F .f32) (e : BitVec 32) : BitVec 32 :=
  let f := Scalar.select (FloatOps.cmpf .olt t (FloatOps.ofBits .f32 0x7B800000#32)) e 255#32
  Scalar.select (IntOp.ori (IntOp.ori (IntOp.cmpi .eq f 0#32) (IntOp.cmpi .eq f 255#32))
    (FloatOps.cmpf .oeq a (FloatOps.ofBits .f32 0x00000000#32))) 126#32 f

/-- The scale of a field: its own field is `f + 1`. -/
def fieldScale (f : BitVec 32) : F .f32 := FloatOps.ofBits .f32 (IntOp.shli .vector (IntOp.addi f 1#32) 23#32)
/-- The inverse scale of a field: its own field is `253 - f`. -/
def fieldInv (f : BitVec 32) : F .f32 := FloatOps.ofBits .f32 (IntOp.shli .vector (IntOp.subi 253#32 f) 23#32)

/-- The exponent the count's scale is made from: 0 where `t` is below `2 ^ (-126)` or at least `2 ^ 120`, and
    where the row's largest magnitude `a` is zero. -/
def expOf (a t : F .f32) (n : BitVec 32) : BitVec 32 :=
  Scalar.select (FloatOps.cmpf .oeq a (FloatOps.ofBits .f32 0x00000000#32)) 0#32
    (Scalar.select (IntOp.andi (FloatOps.cmpf .oge t (FloatOps.ofBits .f32 0x00800000#32))
        (FloatOps.cmpf .olt t (FloatOps.ofBits .f32 0x7B800000#32)))
      (IntOp.subi n 126#32) 0#32)

/-- The scale of an exponent, `2 ^ e`. -/
def expScale (e : BitVec 32) : F .f32 := FloatOps.exp2 (FloatOps.sitofp .f32 e)
/-- The inverse scale of an exponent, `2 ^ (-e)`. -/
def expInv (e : BitVec 32) : F .f32 := FloatOps.exp2 (FloatOps.sitofp .f32 (IntOp.subi 0#32 e))

/-- For a field `n` from 1 to 246 the scale of field `n` is the scale of exponent `n - 126`, and so the inverses. -/
theorem scales_agree (n : ℕ) (h1 : 1 ≤ n) (h2 : n ≤ 246) :
    fieldScale (F := Ideal) (BitVec.ofNat 32 n) = expScale (F := Ideal) (IntOp.subi (BitVec.ofNat 32 n) 126#32)
    ∧ fieldInv (F := Ideal) (BitVec.ofNat 32 n) = expInv (F := Ideal) (IntOp.subi (BitVec.ofNat 32 n) 126#32) := by
  have key : ∀ k : Fin 247, IntOp.addi (BitVec.ofNat 32 k) 1#32 = BitVec.ofNat 32 ((k : ℕ) + 1)
      ∧ IntOp.subi 253#32 (BitVec.ofNat 32 k) = BitVec.ofNat 32 (253 - (k : ℕ))
      ∧ (IntOp.subi (BitVec.ofNat 32 k) 126#32).toInt = ((k : ℕ) : ℤ) - 126
      ∧ (IntOp.subi 0#32 (IntOp.subi (BitVec.ofNat 32 k) 126#32)).toInt = 126 - ((k : ℕ) : ℤ) := by decide +kernel
  obtain ⟨k1, k2, k3, k4⟩ := key ⟨n, by omega⟩
  simp only at k1 k2 k3 k4
  constructor
  · show Ideal.ofBits .f32 (fieldWord (IntOp.addi (BitVec.ofNat 32 n) 1#32))
      = Ideal.exp2 (((IntOp.subi (BitVec.ofNat 32 n) 126#32).toInt : ℝ) : EReal)
    rw [k1, ofBits_fieldWord _ (by omega), exp2_T (n + 1) (by omega) (by omega) _ (by rw [k3]; push_cast; ring)]
  · show Ideal.ofBits .f32 (fieldWord (IntOp.subi 253#32 (BitVec.ofNat 32 n)))
      = Ideal.exp2 (((IntOp.subi 0#32 (IntOp.subi (BitVec.ofNat 32 n) 126#32)).toInt : ℝ) : EReal)
    rw [k2, ofBits_fieldWord _ (by omega), exp2_T (253 - n) (by omega) (by omega) _ (by rw [k4]; omega)]

/-- The scale 1: field 126 and exponent 0. -/
theorem unit_agree : fieldScale (F := Ideal) 126#32 = expScale (F := Ideal) 0#32 ∧ fieldInv (F := Ideal) 126#32 = expInv (F := Ideal) 0#32 := by
  have h := scales_agree 126 (by decide) (by decide)
  exact h

/-- The field when only the truth of the comparisons is known. -/
def fieldB (A B : Bool) (e : BitVec 32) : BitVec 32 :=
  let f := Scalar.select (BitVec.ofBool B) e 255#32
  Scalar.select (IntOp.ori (IntOp.ori (IntOp.cmpi .eq f 0#32) (IntOp.cmpi .eq f 255#32)) (BitVec.ofBool A)) 126#32 f
/-- The exponent when only the truth of the comparisons is known. -/
def expB (A C D : Bool) (n : BitVec 32) : BitVec 32 :=
  Scalar.select (BitVec.ofBool A) 0#32 (Scalar.select (IntOp.andi (BitVec.ofBool C) (BitVec.ofBool D)) (IntOp.subi n 126#32) 0#32)

/-- The field by truth values, for every field the search can find. -/
theorem fieldB_eq : ∀ (N : Fin 256) (A : Bool), fieldB A (decide ((N : ℕ) < 247)) (BitVec.ofNat 32 N)
    = if A = true ∨ (N : ℕ) = 0 ∨ 247 ≤ (N : ℕ) then 126#32 else BitVec.ofNat 32 N := by decide +kernel
/-- The exponent by truth values, for every field the search can find. -/
theorem expB_eq : ∀ (N : Fin 256) (A : Bool), expB A (decide (1 ≤ (N : ℕ))) (decide ((N : ℕ) < 247)) (BitVec.ofNat 32 (min N 246))
    = if A = true ∨ (N : ℕ) = 0 ∨ 247 ≤ (N : ℕ) then 0#32 else IntOp.subi (BitVec.ofNat 32 N) 126#32 := by decide +kernel

/-- The search's field and the count's exponent, in terms of `top t`. -/
theorem field_exp (a t : EReal) : ∃ A : Bool,
    fieldOf (F := Ideal) a t (search (F := Ideal) t) = (if A = true ∨ top t = 0 ∨ 247 ≤ top t then 126#32 else BitVec.ofNat 32 (top t))
    ∧ expOf (F := Ideal) a t (count (F := Ideal) t) = (if A = true ∨ top t = 0 ∨ 247 ≤ top t then 0#32 else IntOp.subi (BitVec.ofNat 32 (top t)) 126#32) := by
  have hb : Ideal.ofBits .f32 0x7B800000#32 = T 247 := ofBits_fieldWord 247 (by decide)
  have hs : Ideal.ofBits .f32 0x00800000#32 = T 1 := ofBits_fieldWord 1 (by decide)
  have h247 := T_le_iff t (k := 247) (by decide) (by decide)
  have h1 := T_le_iff t (k := 1) (by decide) (by decide)
  have eB : decide (t < T 247) = decide (top t < 247) := by
    rw [decide_eq_decide, ← not_le, h247, not_le]
  have eC : decide (T 1 ≤ t) = decide (1 ≤ top t) := by
    rw [decide_eq_decide, h1]
  refine ⟨decide (a = Ideal.ofBits .f32 0x00000000#32), ?_, ?_⟩
  · rw [search_eq]
    refine Eq.trans ?_ (fieldB_eq ⟨top t, top_lt t⟩ _)
    show fieldB _ (decide (t < Ideal.ofBits .f32 0x7B800000#32)) _ = _
    rw [hb, eB]
    rfl
  · rw [count_eq]
    refine Eq.trans ?_ (expB_eq ⟨top t, top_lt t⟩ _)
    show expB _ (decide (Ideal.ofBits .f32 0x00800000#32 ≤ t)) (decide (t < Ideal.ofBits .f32 0x7B800000#32)) _ = _
    rw [hb, hs, eC, eB]
    rfl

/-- THE SCALES AGREE, for every `a` and `t`: the search's scale and inverse scale are the count's. -/
theorem scale_eq (a t : EReal) : fieldScale (F := Ideal) (fieldOf (F := Ideal) a t (search (F := Ideal) t)) = expScale (F := Ideal) (expOf (F := Ideal) a t (count (F := Ideal) t))
    ∧ fieldInv (F := Ideal) (fieldOf (F := Ideal) a t (search (F := Ideal) t)) = expInv (F := Ideal) (expOf (F := Ideal) a t (count (F := Ideal) t)) := by
  obtain ⟨A, h1, h2⟩ := field_exp a t
  rw [h1, h2]
  by_cases h : A = true ∨ top t = 0 ∨ 247 ≤ top t
  · rw [if_pos h, if_pos h]; exact unit_agree
  · rw [if_neg h, if_neg h]
    rw [not_or, not_or] at h
    exact scales_agree _ (by omega) (by omega)

end Cert.Pow2
-- ==== Proof.Rows.lean ====
/- What the computation does to one row, as pure mathematics on the extended reals: the largest absolute
   value, the power-of-two scale of a row and its inverse, the codes of a quantised row, and the gated
   product of one row of codes with the weight codes.

   The two programs are each shown to compute these functions of their rows (`ReferenceRows`, `KernelRows`). -/
module

public import proofs.«01_k».proof.Proof.Pow2

@[expose] public section

set_option maxRecDepth 16384

noncomputable section

namespace Cert.Rows

open Idealize.ShloMosaic Cert.Pow2

/-- The largest absolute value of a row. -/
def amax {n : ℕ} (v : Fin n → EReal) : EReal :=
  Finset.univ.fold max (Ideal.ofBits .f32 0xFF800000#32) fun k => max (v k) (-(v k))

/-- The row's largest absolute value over the largest code: it is multiplied by the float nearest to 1 / 448. -/
def ratio (a : EReal) : EReal := a * Ideal.ofBits .f32 0x3B124925#32

/-- The integer exponent of the scale of a row whose largest absolute value is `a`. -/
def rowExp (a : EReal) : BitVec 32 := expOf (F := Ideal) a (ratio a) (count (F := Ideal) (ratio a))

/-- The scale of a row whose largest absolute value is `a`. -/
def rowScale (a : EReal) : EReal := expScale (F := Ideal) (rowExp a)

/-- The inverse scale of a row whose largest absolute value is `a`. -/
def rowInv (a : EReal) : EReal := expInv (F := Ideal) (rowExp a)

/-- The code of `x` under the inverse scale `i`: the product clipped to the range of the codes. -/
def code (i x : EReal) : EReal :=
  min (Ideal.ofBits .f32 0x43E00000#32) (max (Ideal.ofBits .f32 0xC3E00000#32) (x * i))

/-- The codes of a row. -/
def codes {n : ℕ} (v : Fin n → EReal) (k : Fin n) : EReal := code (rowInv (amax v)) (v k)

/-- One product of a row with a column of weight codes, given back its row scale and its column scale. -/
def dotCol (q w : Fin 5120 → EReal) (a s : EReal) : EReal := (∑ k, q k * w k) * a * s

/-- The gated product: the gate times its logistic, times the up projection. -/
def swiglu (g u : EReal) : EReal := g * Ideal.logistic g * u

/-- The row of the hidden layer that comes from the row `x` under the weights `w` and scales `s`: the first 1728
    columns of the weights are the gate's, the last 1728 the up projection's. -/
def hRow (x : Fin 5120 → EReal) (w : Fin 5120 → Fin 3456 → EReal) (s : Fin 3456 → EReal) (c : Fin 1728) : EReal :=
  swiglu (dotCol (codes x) (fun k => w k ⟨c, by omega⟩) (rowScale (amax x)) (s ⟨c, by omega⟩))
    (dotCol (codes x) (fun k => w k ⟨1728 + c, by omega⟩) (rowScale (amax x)) (s ⟨1728 + c, by omega⟩))

/-! ## The four results, by row and column, from the rows `x` of the input -/

section Results

variable (x : Fin 12288 → Fin 5120 → EReal) (w : Fin 5120 → Fin 3456 → EReal) (s : Fin 3456 → EReal)

/-- Result 1: the scale of row `r` of the hidden layer. -/
def hScale (r : Fin 12288) : EReal := rowScale (amax (hRow (x r) w s))
/-- Result 2: the codes of the hidden layer. -/
def hCode (r : Fin 12288) (c : Fin 1728) : EReal := codes (hRow (x r) w s) c
/-- Result 3: the codes of the input. -/
def xCode (r : Fin 12288) (k : Fin 5120) : EReal := codes (x r) k
/-- Result 4: the scale of row `r` of the input. -/
def xScale (r : Fin 12288) : EReal := rowScale (amax (x r))

end Results

/-! ## The padding -/

/-- The word the largest absolute value starts from denotes minus infinity. -/
theorem ofBits_negInf : Ideal.ofBits .f32 0xFF800000#32 = ⊥ := by
  show Ideal.ieee 8 23 0xFF800000#32 = ⊥
  unfold Ideal.ieee
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  rw [h1, h2, h3]
  simp

/-- An absolute value is at least zero. -/
theorem abs_nonneg' (x : EReal) : 0 ≤ max x (-x) := by
  rcases le_total 0 x with h | h
  · exact h.trans (le_max_left _ _)
  · exact (EReal.neg_nonneg.2 h).trans (le_max_right _ _)

/-- A bound on a fold of `max` is a bound on its start and on every element. -/
theorem fold_max_le_iff {n : ℕ} (f : Fin n → EReal) (b c : EReal) :
    Finset.univ.fold max b f ≤ c ↔ b ≤ c ∧ ∀ k, f k ≤ c := by
  rw [Finset.fold_max_le]; simp

/-- Columns of zeros after the last column of a row leave its largest absolute value as it is. -/
theorem amax_padded {n p : ℕ} (hn : 0 < n) (hnp : n ≤ p) (v : Fin n → EReal) (u : Fin p → EReal)
    (hu : ∀ k : Fin p, ∀ h : (k : ℕ) < n, u k = v ⟨k, h⟩) (hz : ∀ k : Fin p, ¬ (k : ℕ) < n → u k = 0) :
    amax u = amax v := by
  refine eq_of_forall_ge_iff fun c => ?_
  unfold amax
  rw [fold_max_le_iff, fold_max_le_iff]
  refine and_congr_right fun _ => ⟨fun h k => ?_, fun h k => ?_⟩
  · have := h ⟨k, k.2.trans_le hnp⟩
    rwa [hu ⟨k, k.2.trans_le hnp⟩ k.2] at this
  · by_cases hk : (k : ℕ) < n
    · rw [hu k hk]; exact h _
    · rw [hz k hk, neg_zero, max_self]
      exact (abs_nonneg' _).trans (h ⟨0, hn⟩)

end Cert.Rows

end
-- ==== Proof.KernelRows.lean ====
/- What one step of the kernel's body computes, row by row: each of its vectors at a row and a column is the
   function of `Rows` of that row of the block.

   The kernel finds the exponent by a search and spells the scales as words; `Pow2.scale_eq` makes them the
   scales of `Rows`. Its weights are padded to whole tiles with zeros, so its hidden rows have 64 more
   columns, all zero, which change neither the largest absolute value nor the columns that are stored. -/
module

public import proofs.«01_k».proof.Proof.Gen.KernelIdeal.Frame
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.KernelIdeal.Rows

open Cert.KernelIdeal Cert.KernelIdeal.Gen Cert.Pow2 Cert.Rows

/-! ## The body's vectors as scalar functions of a few vectors, for any float operations -/

section Generic

variable {F : FTy → Type} [FloatOps F]

/-- The largest absolute value of each row of the input's block. -/
def mx (X : FVec F S256x5120 .f32) : FVec F S256x1 .f32 :=
  shapeCast S256x1 (multiReduction .maximumf [1] S256 (absf X) 0xFF800000#32 reduces_S256x5120_S256 (.inl rfl) rfl) shapeCasts_S256_S256x1

/-- The largest absolute value of each row of the padded hidden block. -/
def mxh (X : FVec F S256x1792 .f32) : FVec F S256x1 .f32 :=
  shapeCast S256x1 (multiReduction .maximumf [1] S256 (absf X) 0xFF800000#32 reduces_S256x1792_S256 (.inl rfl) rfl) shapeCasts_S256_S256x1

/-- The ratio of each row. -/
def rat (a : FVec F S256x1 .f32) : FVec F S256x1 .f32 := fun j => FloatOps.mulf (a j) (FloatOps.ofBits .f32 0x3B124925#32)

/-- The exponent field of each row's scale, found by the search. -/
def fld (a : FVec F S256x1 .f32) : IVec S256x1 32 := fun i => fieldOf (a i) (rat a i) (search (rat a i))

/-- The word of each row's inverse scale. -/
def invWord (a : FVec F S256x1 .f32) : IVec S256x1 32 := fun i => IntOp.shli .vector (IntOp.subi 253#32 (fld a i)) 23#32

/-- The input's largest absolute values, per row. -/
theorem pay5 (X : FVec F S256x5120 .bf16) : k0_pay5 X = mx (k0_pay4 X) := rfl
/-- The ratios of the input's rows. -/
theorem pay6 (X : FVec F S256x5120 .bf16) : k0_pay6 X = rat (k0_pay5 X) := rfl
/-- The first five steps of the search for the input's fields. -/
theorem pay7 (X : FVec F S256x5120 .bf16) :
    k0_pay7 X = fun i => step (k0_pay6 X i) 8 (step (k0_pay6 X i) 16 (step (k0_pay6 X i) 32 (step (k0_pay6 X i) 64 (step (k0_pay6 X i) 128 0)))) := rfl
/-- The last three steps, and the field the scale is made from. -/
theorem pay8 (a t : FVec F S256x1 .f32) (e : IVec S256x1 32) :
    k0_pay8 a t e = fun i => fieldOf (a i) (t i) (step (t i) 1 (step (t i) 2 (step (t i) 4 (e i)))) := rfl
/-- The exponent fields of the input's rows. -/
theorem field_x (X : FVec F S256x5120 .bf16) : k0_pay8 (k0_pay5 X) (k0_pay6 X) (k0_pay7 X) = fld (mx (k0_pay4 X)) := by
  rw [pay8, pay7, pay6, pay5]; rfl
/-- The input's scales are those of its fields. -/
theorem pay9 (a t : FVec F S256x1 .f32) (e : IVec S256x1 32) :
    k0_pay9 a t e = fun i => fieldScale (k0_pay8 a t e i) := rfl
/-- The words of the input's inverse scales. -/
theorem pay10 (a t : FVec F S256x1 .f32) (e : IVec S256x1 32) :
    k0_pay10 a t e = fun i => IntOp.shli .vector (IntOp.subi 253#32 (k0_pay8 a t e i)) 23#32 := rfl

/-- The hidden rows' largest absolute values. -/
theorem pay13 (v2 : FVec F S256x5120 .f32) (v83 : FVec F S256x1 .f32) (v87 : IVec S256x1 32) (v99 v100 : FVec F S5120x1728 .fp8e4m3) (v105 : FVec F S1x3584 .f32) :
    k0_pay13 v2 v83 v87 v99 v100 v105 = mxh (k0_pay12 v2 v83 v87 v99 v100 v105) := rfl
/-- The ratios of the hidden rows. -/
theorem pay14 (v2 : FVec F S256x5120 .f32) (v83 : FVec F S256x1 .f32) (v87 : IVec S256x1 32) (v99 v100 : FVec F S5120x1728 .fp8e4m3) (v105 : FVec F S1x3584 .f32) :
    k0_pay14 v2 v83 v87 v99 v100 v105 = rat (k0_pay13 v2 v83 v87 v99 v100 v105) := rfl
/-- The first step of the search for the hidden rows' fields. -/
theorem pay15 (v2 : FVec F S256x5120 .f32) (v83 : FVec F S256x1 .f32) (v87 : IVec S256x1 32) (v99 v100 : FVec F S5120x1728 .fp8e4m3) (v105 : FVec F S1x3584 .f32) :
    k0_pay15 v2 v83 v87 v99 v100 v105 = fun i => step (k0_pay14 v2 v83 v87 v99 v100 v105 i) 128 0 := rfl
/-- The next six steps. -/
theorem pay16 (t : FVec F S256x1 .f32) (e : IVec S256x1 32) :
    k0_pay16 t e = fun i => step (t i) 2 (step (t i) 4 (step (t i) 8 (step (t i) 16 (step (t i) 32 (step (t i) 64 (e i)))))) := rfl
/-- The last step, and the field the hidden row's scale is made from. -/
theorem pay1 (a t : FVec F S256x1 .f32) (e : IVec S256x1 32) :
    k0_pay1 a t (k0_pay16 t e) (k0_pay17 t e) (k0_pay18 t e) = fun i => fieldOf (a i) (t i) (step (t i) 1 (k0_pay16 t e i)) := rfl
/-- The exponent fields of the hidden rows. -/
theorem field_h (a : FVec F S256x1 .f32) (e : IVec S256x1 32) (he : e = fun i => step (rat a i) 128 0) :
    k0_pay1 a (rat a) (k0_pay16 (rat a) e) (k0_pay17 (rat a) e) (k0_pay18 (rat a) e) = fld a := by
  rw [pay1, pay16, he]; rfl
/-- The hidden rows' scales are those of their fields. -/
theorem pay2 (a t : FVec F S256x1 .f32) (e p q : IVec S256x1 32) :
    k0_pay2 a t e p q = fun i => fieldScale (k0_pay1 a t e p q i) := rfl

end Generic

/-! ## The rows at `Ideal` -/

/-- The largest absolute value of a row of the input's block. -/
theorem mx_apply (X : FVec Ideal S256x5120 .f32) (r : Fin 256) : mx X (ix2 r 0) = amax fun k => X (ix2 r k) := by
  pointwise [mx]; rfl

/-- The largest absolute value of a padded hidden row. -/
theorem mxh_apply (X : FVec Ideal S256x1792 .f32) (r : Fin 256) : mxh X (ix2 r 0) = amax fun k => X (ix2 r k) := by
  pointwise [mxh]; rfl

/-- The cast of the input to float32 changes no value. -/
theorem pay4_apply (X : FVec Ideal S256x5120 .bf16) (r : Fin 256) (k : Fin 5120) : k0_pay4 (F := Ideal) X (ix2 r k) = X (ix2 r k) := by
  pointwise [k0_pay4]

/-- The scale of a row's field is the row's scale. -/
theorem fld_scale (a : FVec Ideal S256x1 .f32) (i : S256x1.Idx) : fieldScale (F := Ideal) (fld a i) = rowScale (a i) :=
  (scale_eq (a i) (ratio (a i))).1

/-- The inverse scale of a row's field is the row's inverse scale. -/
theorem fld_inv (a : FVec Ideal S256x1 .f32) (i : S256x1.Idx) : fieldInv (F := Ideal) (fld a i) = rowInv (a i) :=
  (scale_eq (a i) (ratio (a i))).2

/-- The scale of each row of the input. -/
theorem xs_apply (X : FVec Ideal S256x5120 .bf16) (r : Fin 256) :
    k0_pay9 (F := Ideal) (k0_pay5 (F := Ideal) X) (k0_pay6 (F := Ideal) X) (k0_pay7 (F := Ideal) X) (ix2 r 0) = rowScale (amax fun k => X (ix2 r k)) := by
  rw [pay9]; show fieldScale (F := Ideal) _ = _
  rw [field_x, fld_scale, mx_apply]
  simp only [pay4_apply]

/-- A code of the input, from the word of its row's inverse scale. -/
theorem pay11_apply (v2 : FVec Ideal S256x5120 .f32) (v87 : IVec S256x1 32) (r : Fin 256) (k : Fin 5120) :
    k0_pay11 (F := Ideal) v2 v87 (ix2 r k) = code (FloatOps.ofBits (F := Ideal) .f32 (v87 (ix2 r 0))) (v2 (ix2 r k)) := by
  pointwise [k0_pay11]; rfl

/-- The codes of each row of the input. -/
theorem xc_apply (X : FVec Ideal S256x5120 .bf16) (r : Fin 256) (k : Fin 5120) :
    k0_pay11 (F := Ideal) (k0_pay4 X) (k0_pay10 (k0_pay5 (F := Ideal) X) (k0_pay6 (F := Ideal) X) (k0_pay7 (F := Ideal) X)) (ix2 r k) = codes (fun k => X (ix2 r k)) k := by
  rw [pay11_apply, pay4_apply, pay10]
  show code (fieldInv (F := Ideal) _) _ = _
  rw [field_x, fld_inv, mx_apply]
  simp only [pay4_apply]
  rfl

/-- The word 0 denotes zero. -/
theorem ofBits_zero8 : Ideal.ofBits FTy.fp8e4m3 0#8 = 0 := by
  show Ideal.e4m3fn 0#8 = 0
  unfold Ideal.e4m3fn
  have h1 : ((0#8 : BitVec 8).extractLsb' 7 1 == 1#1) = false := by decide
  have h2 : ((0#8 : BitVec 8).extractLsb' 3 4).toNat = 0 := by decide
  have h3 : ((0#8 : BitVec 8).extractLsb' 0 3).toNat = 0 := by decide
  rw [h1, h2, h3]
  simp

/-- A product with a zero column is zero. -/
theorem dotCol_zero (q : Fin 5120 → EReal) (w : Fin 5120 → EReal) (a s : EReal) (hw : ∀ k, w k = 0) : dotCol q w a s = 0 := by
  unfold dotCol
  simp only [hw, mul_zero, Finset.sum_const_zero, zero_mul]

/-- The padded gate projection at a column. -/
theorem h_apply (v2 : FVec Ideal S256x5120 .f32) (v83 : FVec Ideal S256x1 .f32) (v87 : IVec S256x1 32) (v99 v100 : FVec Ideal S5120x1728 .fp8e4m3)
    (v105 : FVec Ideal S1x3584 .f32) (r : Fin 256) (c : Fin 1792) :
    k0_pay12 (F := Ideal) v2 v83 v87 v99 v100 v105 (ix2 r c)
      = swiglu (dotCol (fun k => k0_pay11 v2 v87 (ix2 r k)) (fun k => if h : (c : ℕ) < 1728 then v99 (ix2 k ⟨c, h⟩) else 0) (v83 (ix2 r 0)) (v105 (ix2 0 ⟨c, by omega⟩)))
        (dotCol (fun k => k0_pay11 v2 v87 (ix2 r k)) (fun k => if h : (c : ℕ) < 1728 then v100 (ix2 k ⟨c, h⟩) else 0) (v83 (ix2 r 0)) (v105 (ix2 0 ⟨1792 + c, by omega⟩))) := by
  have hc := c.2
  have e1 : 1792 + (c : ℕ) - 1728 - 64 = c := by omega
  pointwise [k0_pay12]
  by_cases h : (c : ℕ) < 1728
  · simp only [dif_pos h, dif_neg (show ¬ 1792 + (c : ℕ) < 1728 by omega), dif_neg (show ¬ 1792 + (c : ℕ) - 1728 < 64 by omega), e1]
    rfl
  · simp only [dif_neg h, dif_pos (show (c : ℕ) - 1728 < 64 by omega), dif_neg (show ¬ 1792 + (c : ℕ) < 1728 by omega), dif_neg (show ¬ 1792 + (c : ℕ) - 1728 < 64 by omega), e1,
      ofBits_zero8]
    rfl

section Hidden

variable (X : FVec Ideal S256x5120 .bf16) (wg wu : FVec Ideal S5120x1728 .fp8e4m3) (sp : FVec Ideal S1x3584 .f32)
  (w : Fin 5120 → Fin 3456 → EReal) (s : Fin 3456 → EReal)

/-- The padded hidden block made from the input's own scales and codes. -/
abbrev hid : FVec Ideal S256x1792 .f32 :=
  k0_pay12 (F := Ideal) (k0_pay4 X) (k0_pay9 (k0_pay5 (F := Ideal) X) (k0_pay6 (F := Ideal) X) (k0_pay7 (F := Ideal) X)) (k0_pay10 (k0_pay5 (F := Ideal) X) (k0_pay6 (F := Ideal) X) (k0_pay7 (F := Ideal) X)) wg wu sp

/-- A column of the hidden block that is not padding is `hRow` of the input's row. -/
theorem hidden_apply (hg : ∀ k (c : Fin 1728), wg (ix2 k c) = w k ⟨c, by omega⟩) (hu : ∀ k (c : Fin 1728), wu (ix2 k c) = w k ⟨1728 + c, by omega⟩)
    (hsg : ∀ c : Fin 1728, sp (ix2 0 ⟨c, by omega⟩) = s ⟨c, by omega⟩) (hsu : ∀ c : Fin 1728, sp (ix2 0 ⟨1792 + c, by omega⟩) = s ⟨1728 + c, by omega⟩)
    (r : Fin 256) (c : Fin 1792) (h : (c : ℕ) < 1728) :
    hid X wg wu sp (ix2 r c) = hRow (fun k => X (ix2 r k)) w s ⟨c, h⟩ := by
  unfold hid
  rw [h_apply, xs_apply]
  simp only [xc_apply, dif_pos h]
  rw [hsg ⟨c, h⟩, hsu ⟨c, h⟩]
  simp only [hg, hu]
  rfl

/-- A padding column of the hidden block is zero. -/
theorem hidden_pad (r : Fin 256) (c : Fin 1792) (h : ¬ (c : ℕ) < 1728) : hid X wg wu sp (ix2 r c) = 0 := by
  unfold hid
  rw [h_apply]
  simp only [dif_neg h]
  rw [dotCol_zero _ _ _ _ fun _ => rfl, dotCol_zero _ _ _ _ fun _ => rfl]
  unfold swiglu
  rw [mul_zero]

/-- The largest absolute value of a padded hidden row is that of the row without its padding. -/
theorem mxh_hidden (hg : ∀ k (c : Fin 1728), wg (ix2 k c) = w k ⟨c, by omega⟩) (hu : ∀ k (c : Fin 1728), wu (ix2 k c) = w k ⟨1728 + c, by omega⟩)
    (hsg : ∀ c : Fin 1728, sp (ix2 0 ⟨c, by omega⟩) = s ⟨c, by omega⟩) (hsu : ∀ c : Fin 1728, sp (ix2 0 ⟨1792 + c, by omega⟩) = s ⟨1728 + c, by omega⟩) (r : Fin 256) :
    mxh (hid X wg wu sp) (ix2 r 0) = amax (hRow (fun k => X (ix2 r k)) w s) := by
  rw [mxh_apply]
  exact amax_padded (by decide) (by decide) _ _ (fun k h => hidden_apply X wg wu sp w s hg hu hsg hsu r k h) (fun k h => hidden_pad X wg wu sp r k h)

end Hidden

/-- A code of the hidden layer, from its row's field. -/
theorem pay3_apply (h : FVec Ideal S256x1792 .f32) (a t : FVec Ideal S256x1 .f32) (e p q : IVec S256x1 32) (r : Fin 256) (c : Fin 1728) :
    k0_pay3 (F := Ideal) h a t e p q (ix2 r c)
      = code (fieldInv (F := Ideal) (k0_pay1 (F := Ideal) a t e p q (ix2 r 0))) (h (ix2 r ⟨c, by omega⟩)) := by
  pointwise [k0_pay3]; rfl

/-- The scale of each row of the hidden layer. -/
theorem hs_apply (h : FVec Ideal S256x1792 .f32) (e : IVec S256x1 32) (he : e = fun i => step (F := Ideal) (rat (mxh h) i) 128 0) (r : Fin 256) :
    k0_pay2 (F := Ideal) (mxh h) (rat (mxh h)) (k0_pay16 (rat (mxh h)) e) (k0_pay17 (rat (mxh h)) e) (k0_pay18 (rat (mxh h)) e) (ix2 r 0)
      = rowScale (mxh h (ix2 r 0)) := by
  rw [pay2]; show fieldScale (F := Ideal) _ = _
  rw [field_h _ _ he, fld_scale]

/-- The codes of each row of the hidden layer. -/
theorem hc_apply (h : FVec Ideal S256x1792 .f32) (e : IVec S256x1 32) (he : e = fun i => step (F := Ideal) (rat (mxh h) i) 128 0) (r : Fin 256) (c : Fin 1728) :
    k0_pay3 (F := Ideal) h (mxh h) (rat (mxh h)) (k0_pay16 (rat (mxh h)) e) (k0_pay17 (rat (mxh h)) e) (k0_pay18 (rat (mxh h)) e) (ix2 r c)
      = code (rowInv (mxh h (ix2 r 0))) (h (ix2 r ⟨c, by omega⟩)) := by
  rw [pay3_apply, field_h _ _ he, fld_inv]

/-! ## What the body leaves in each output window's block -/

section Out

variable (x0 : FVec Ideal S256x5120 .bf16) (x1 : FVec Ideal S5120x3456 .fp8e4m3) (x2 : FVec Ideal S1x3584 .f32) (s : Fin 3456 → EReal)

/-- The offsets of a block that starts at the origin. -/
theorem hz : (![0, 0] : Fin 2 → Nat) = fun _ => 0 := funext fun a => by fin_cases a <;> rfl

/-- The block of the input's scales. -/
theorem out6_apply (r : Fin 256) : out0_6 (F := Ideal) x0 x1 x2 (ix2 r 0) = rowScale (amax fun k => x0 (ix2 r k)) := by
  unfold_out out0_6
  rw [View.canon_unit_zero hz, View.ld_unit_zero hz]
  exact xs_apply x0 r

/-- The block of the input's codes. -/
theorem out5_apply (r : Fin 256) (k : Fin 5120) : out0_5 (F := Ideal) x0 x1 x2 (ix2 r k) = codes (fun k => x0 (ix2 r k)) k := by
  unfold_out out0_5
  rw [View.canon_unit_zero hz, View.ld_unit_zero hz]
  exact xc_apply x0 r k

/-- The gate's half of the weights. -/
abbrev ldGate : FVec Ideal S5120x1728 .fp8e4m3 := View.ld (Val := Elt Ideal) (e' := .fp8e4m3) x1 r0_2
/-- The up projection's half of the weights. -/
abbrev ldUp : FVec Ideal S5120x1728 .fp8e4m3 := View.ld (Val := Elt Ideal) (e' := .fp8e4m3) x1 r0_3

/-- The gate's columns of the weights, as the body loads them. -/
theorem ld_gate (k : Fin 5120) (c : Fin 1728) : ldGate x1 (ix2 k c) = x1 (ix2 k ⟨c, by omega⟩) := by
  pointwise [ldGate]

/-- The up projection's columns of the weights, as the body loads them. -/
theorem ld_up (k : Fin 5120) (c : Fin 1728) : ldUp x1 (ix2 k c) = x1 (ix2 k ⟨1728 + c, by omega⟩) := by
  pointwise [ldUp]

/-- The hidden rows' largest absolute values, as the body takes them. -/
theorem pay25_eq : k0_pay25 (F := Ideal) x0 x1 x2 = mxh (hid x0 (ldGate x1) (ldUp x1) x2) := by
  unfold k0_pay25 k0_pay24 k0_pay23 k0_pay22 k0_pay21 k0_pay20 k0_pay19
  rw [View.ld_unit_zero hz, View.ld_unit_zero hz]
  exact pay13 _ _ _ _ _ _

/-- The hidden rows' ratios, as the body takes them. -/
theorem pay26_eq : k0_pay26 (F := Ideal) x0 x1 x2 = rat (k0_pay25 (F := Ideal) x0 x1 x2) := by
  unfold k0_pay26 k0_pay25
  exact pay14 _ _ _ _ _ _

/-- The first step of their search, as the body takes it. -/
theorem pay27_eq : k0_pay27 (F := Ideal) x0 x1 x2 = fun i => step (F := Ideal) (rat (k0_pay25 (F := Ideal) x0 x1 x2) i) 128 0 := by
  rw [← pay26_eq]
  unfold k0_pay27 k0_pay26
  exact pay15 _ _ _ _ _ _

variable (hsg : ∀ c : Fin 1728, x2 (ix2 0 ⟨c, by omega⟩) = s ⟨c, by omega⟩) (hsu : ∀ c : Fin 1728, x2 (ix2 0 ⟨1792 + c, by omega⟩) = s ⟨1728 + c, by omega⟩)

include hsg hsu

/-- The block of the hidden rows' scales. -/
theorem out3_apply (r : Fin 256) :
    out0_3 (F := Ideal) x0 x1 x2 (ix2 r 0) = rowScale (amax (hRow (fun k => x0 (ix2 r k)) (fun k c => x1 (ix2 k c)) s)) := by
  unfold out0_3 k0_pay30 k0_pay29 k0_pay28
  rw [View.canon_unit_zero hz, pay26_eq]
  have he := pay27_eq x0 x1 x2
  rw [pay25_eq] at he ⊢
  rw [hs_apply _ _ he, mxh_hidden x0 _ _ x2 (fun k c => x1 (ix2 k c)) s (ld_gate x1) (ld_up x1) hsg hsu]

/-- The block of the hidden rows' codes. -/
theorem out4_apply (r : Fin 256) (c : Fin 1728) :
    out0_4 (F := Ideal) x0 x1 x2 (ix2 r c) = codes (hRow (fun k => x0 (ix2 r k)) (fun k c => x1 (ix2 k c)) s) c := by
  unfold out0_4 k0_pay30 k0_pay29 k0_pay28
  rw [View.canon_unit_zero hz, pay26_eq]
  have he := pay27_eq x0 x1 x2
  rw [pay25_eq] at he ⊢
  unfold k0_pay24 k0_pay23 k0_pay22 k0_pay21 k0_pay20 k0_pay19
  rw [View.ld_unit_zero hz, View.ld_unit_zero hz, hc_apply _ _ he, mxh_hidden x0 _ _ x2 (fun k c => x1 (ix2 k c)) s (ld_gate x1) (ld_up x1) hsg hsu]
  have := hidden_apply x0 _ _ x2 (fun k c => x1 (ix2 k c)) s (ld_gate x1) (ld_up x1) hsg hsu r ⟨c, by omega⟩ c.2
  rw [this]
  rfl

end Out

end Cert.KernelIdeal.Rows

end
-- ==== Proof.KernelValue.lean ====
/- What the kernel's output arrays hold after the run: the four results of `Rows` of the argument arrays.

   Point `t` of the grid takes rows `256 * t` to `256 * t + 255` of the input, all of the weights and the padded
   scales, and writes the same rows of each output. -/
module

public import proofs.«01_k».proof.Proof.KernelRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Rows Cert.Rows
open Idealize.ShloMosaic.Pipeline (Dat)

variable (m : (ℓ : Loc nD τ sig) → Buf (Elt Ideal) ℓ)

/-! ## The arguments, by row and column -/

/-- The input, its first two axes taken as one. -/
def X (c : Dev nD) (r : Fin 12288) (k : Fin 5120) : EReal :=
  (m (c.tc.loc main_arg0) : FVec Ideal S6x2048x5120 .bf16) (ix3 ⟨r / 2048, by omega⟩ ⟨r % 2048, by omega⟩ k)
/-- The weight codes. -/
def W (c : Dev nD) (k : Fin 5120) (j : Fin 3456) : EReal := (m (c.tc.loc main_arg1) : FVec Ideal S5120x3456 .fp8e4m3) (ix2 k j)
/-- The weight scales. -/
def S (c : Dev nD) (j : Fin 3456) : EReal := (m (c.tc.loc main_arg2) : FVec Ideal S3456 .f32) (ix1 j)

/-! ## What the host operations leave in the staged arrays -/

/-- The scales as the kernel takes them: each half followed by 64 zeros. -/
def padScales (s : FVec Ideal S3456 .f32) : FVec Ideal S1x3584 .f32 :=
  concatenate S1x3584 1
    [⟨S1x1792, pad S1x1792 ![0, 0] ![0, 64] ![0, 0] (extractStridedSlice S1x1728 ![0, 0] (shapeCast S1x3456 s shapeCasts_S3456_S1x3456) slices_S1x3456_S1x1728_0_0)
        (sitofp .f32 (constantI S_ 32 0#32)) pads_S1x1728_S1x1792_000_0640 h_S_⟩,
     ⟨S1x1792, pad S1x1792 ![0, 0] ![0, 64] ![0, 0] (extractStridedSlice S1x1728 ![0, 1728] (shapeCast S1x3456 s shapeCasts_S3456_S1x3456) slices_S1x3456_S1x1728_0_1728)
        (sitofp .f32 (constantI S_ 32 0#32)) pads_S1x1728_S1x1792_000_0640 h_S_⟩] concatenates_S1x1792_S1x1792_S1x3584_d1

/-- The staged scales are the padded scales. -/
theorem V_main_v5 (c : Dev nD) : V m c main_v5 = padScales (m (c.tc.loc main_arg2)) := by
  unfold V
  simp only [hostOps0, hostOps0_1, hostOps0_2, hostOps0_3, hostOps0_4, List.flatten_cons, List.flatten_nil, List.cons_append, List.nil_append, List.append_nil]
  after_results
  rfl

/-- The staged input is the input reshaped. -/
theorem V_main_v6 (c : Dev nD) : V m c main_v6 = shapeCast S12288x5120 (m (c.tc.loc main_arg0)) shapeCasts_S6x2048x5120_S12288x5120 := by
  unfold V
  simp only [hostOps0, hostOps0_1, hostOps0_2, hostOps0_3, hostOps0_4, List.flatten_cons, List.flatten_nil, List.cons_append, List.nil_append, List.append_nil]
  after_results
  rfl

/-- The input with its first two axes taken as one, at a row and a column. -/
theorem reshape_apply (x : FVec Ideal S6x2048x5120 .bf16) (r : Fin 12288) (k : Fin 5120) :
    shapeCast S12288x5120 x shapeCasts_S6x2048x5120_S12288x5120 (ix2 r k) = x (ix3 ⟨r / 2048, by omega⟩ ⟨r % 2048, by omega⟩ k) := by
  pointwise []

/-- The staged input at a row and a column. -/
theorem V_main_v6_apply (c : Dev nD) (r : Fin 12288) (k : Fin 5120) : (V m c main_v6 : FVec Ideal S12288x5120 .bf16) (ix2 r k) = X m c r k := by
  rw [V_main_v6]
  exact reshape_apply _ r k

/-- A column of the padded scales' first half. -/
theorem padScales_gate (s : FVec Ideal S3456 .f32) (k : Fin 1728) : padScales s (ix2 0 ⟨k, by omega⟩) = s (ix1 ⟨k, by omega⟩) := by
  have hk := k.2
  pointwise [padScales]
  rw [dif_pos (show (k : ℕ) < 1792 by omega)]

/-- A column of the padded scales' second half. -/
theorem padScales_up (s : FVec Ideal S3456 .f32) (k : Fin 1728) : padScales s (ix2 0 ⟨1792 + k, by omega⟩) = s (ix1 ⟨1728 + k, by omega⟩) := by
  pointwise [padScales]

/-! ## The blocks of a point -/

/-- Which block of its array each window holds at each grid point. -/
theorem idx : ∀ t : Fin cfg0.N, win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0] :=
  (by decide +kernel : ∀ t : Fin grid0.N, _)

/-- Row `r` of point `t`'s block is a row of the array. -/
theorem row_lt (t : Fin cfg0.N) (r : Fin 256) : (grid0.coords t 0).val * 256 + r < 12288 := by
  have h : (grid0.coords t 0).val < 48 := (grid0.coords t 0).2
  have := r.2
  omega

/-- The array's row that is row `r` of point `t`'s block. -/
abbrev row (t : Fin cfg0.N) (r : Fin 256) : Fin 12288 := ⟨(grid0.coords t 0).val * 256 + r, row_lt t r⟩

/-- The input's block. -/
theorem iblk0 (c : Dev nD) (t : Fin cfg0.N) (r : Fin 256) (k : Fin 5120) :
    (iblk m c 0 t : FVec Ideal S256x5120 .bf16) (ix2 r k) = X m c (row t r) k := by
  have h : (iblk m c 0 t : FVec Ideal S256x5120 .bf16) (ix2 r k) = (V m c main_v6 : FVec Ideal S12288x5120 .bf16) (ix2 (row t r) k) := by
    blk_point [iblk, V, idx t]
  rw [h, V_main_v6_apply]

/-- The weights' block is the whole array. -/
theorem iblk1 (c : Dev nD) (t : Fin cfg0.N) (k : Fin 5120) (j : Fin 3456) :
    (iblk m c 1 t : FVec Ideal S5120x3456 .fp8e4m3) (ix2 k j) = W m c k j := by
  unfold W
  blk_point [iblk, V, idx t]

/-- The scales' block is the whole padded array. -/
theorem iblk2 (c : Dev nD) (t : Fin cfg0.N) (j : Fin 3584) :
    (iblk m c 2 t : FVec Ideal S1x3584 .f32) (ix2 0 j) = padScales (m (c.tc.loc main_arg2)) (ix2 0 j) := by
  rw [← V_main_v5]
  blk_point [iblk, idx t]

/-- The scales of the gate's columns in the block. -/
theorem iblk2_gate (c : Dev nD) (t : Fin cfg0.N) (j : Fin 1728) :
    (iblk m c 2 t : FVec Ideal S1x3584 .f32) (ix2 0 ⟨j, by omega⟩) = S m c ⟨j, by omega⟩ := by
  rw [iblk2, padScales_gate]; rfl

/-- The scales of the up projection's columns in the block. -/
theorem iblk2_up (c : Dev nD) (t : Fin cfg0.N) (j : Fin 1728) :
    (iblk m c 2 t : FVec Ideal S1x3584 .f32) (ix2 0 ⟨1792 + j, by omega⟩) = S m c ⟨1728 + j, by omega⟩ := by
  rw [iblk2, padScales_up]; rfl

/-! ## The arrays -/

/-- Result 1. -/
def hs (c : Dev nD) : FVec Ideal S12288x1 .f32 := fun i => hScale (X m c) (W m c) (S m c) (i 0)
/-- Result 2. -/
def hc (c : Dev nD) : FVec Ideal S12288x1728 .fp8e4m3 := fun i => hCode (X m c) (W m c) (S m c) (i 0) (i 1)
/-- Result 3. -/
def xc (c : Dev nD) : FVec Ideal S12288x5120 .fp8e4m3 := fun i => xCode (X m c) (i 0) (i 1)
/-- Result 4. -/
def xs (c : Dev nD) : FVec Ideal S12288x1 .f32 := fun i => xScale (X m c) (i 0)

/-- Row and column of the array under row and column of point `t`'s block, per output window. -/
theorem emb3 (t : Fin cfg0.N) (r : Fin 256) (q : Fin 1) : (((cfg0.win 3).blk t).view.emb (ix2 r q : S256x1.Idx)) 0 = row t r := by
  refine Fin.ext ?_
  blk_simp [idx t] <;> rfl
/-- The same for output window 4. -/
theorem emb4 (t : Fin cfg0.N) (r : Fin 256) (q : Fin 1728) : (((cfg0.win 4).blk t).view.emb (ix2 r q : S256x1728.Idx)) 0 = row t r ∧ (((cfg0.win 4).blk t).view.emb (ix2 r q : S256x1728.Idx)) 1 = q := by
  refine ⟨Fin.ext ?_, Fin.ext ?_⟩
  · blk_simp [idx t] <;> rfl
  · blk_simp [idx t] <;> rfl
/-- The same for output window 5. -/
theorem emb5 (t : Fin cfg0.N) (r : Fin 256) (q : Fin 5120) : (((cfg0.win 5).blk t).view.emb (ix2 r q : S256x5120.Idx)) 0 = row t r ∧ (((cfg0.win 5).blk t).view.emb (ix2 r q : S256x5120.Idx)) 1 = q := by
  refine ⟨Fin.ext ?_, Fin.ext ?_⟩
  · blk_simp [idx t] <;> rfl
  · blk_simp [idx t] <;> rfl
/-- The same for output window 6. -/
theorem emb6 (t : Fin cfg0.N) (r : Fin 256) (q : Fin 1) : (((cfg0.win 6).blk t).view.emb (ix2 r q : S256x1.Idx)) 0 = row t r := by
  refine Fin.ext ?_
  blk_simp [idx t] <;> rfl

/-- An index of a block is its row and its column. -/
theorem eta1 (y : S256x1.Idx) : ∃ r : Fin 256, y = ix2 r (0 : Fin 1) :=
  ⟨y 0, funext fun a => by fin_cases a; exacts [rfl, Subsingleton.elim (α := Fin 1) _ _]⟩
/-- The same for blocks of 1728 columns. -/
theorem eta4 (y : S256x1728.Idx) : ∃ (r : Fin 256) (q : Fin 1728), y = ix2 r q := ⟨y 0, y 1, funext fun a => by fin_cases a <;> rfl⟩
/-- The same for blocks of 5120 columns. -/
theorem eta5 (y : S256x5120.Idx) : ∃ (r : Fin 256) (q : Fin 5120), y = ix2 r q := ⟨y 0, y 1, funext fun a => by fin_cases a <;> rfl⟩

/-- A row of the input's block is a row of the input. -/
theorem iblk0_row (c : Dev nD) (t : Fin cfg0.N) (r : Fin 256) :
    (fun k : Fin 5120 => (iblk m c 0 t : FVec Ideal S256x5120 .bf16) (ix2 r k)) = X m c (row t r) := funext (iblk0 m c t r)
/-- The weights' block, as a function of row and column, is the weights. -/
theorem iblk1_all (c : Dev nD) (t : Fin cfg0.N) :
    (fun (k : Fin 5120) (j : Fin 3456) => (iblk m c 1 t : FVec Ideal S5120x3456 .fp8e4m3) (ix2 k j)) = W m c := funext fun k => funext (iblk1 m c t k)

/-- What point `t` writes to output window 3 is its part of the result. -/
theorem point3 (c : Dev nD) (t : Fin cfg0.N) (y : S256x1.Idx) :
    out0_3 (F := Ideal) (iblk m c 0 t) (iblk m c 1 t) (iblk m c 2 t) y = hs m c (((cfg0.win 3).blk t).view.emb y) := by
  obtain ⟨r, rfl⟩ := eta1 y
  unfold hs hScale
  rw [emb3 t r 0]
  refine (out3_apply _ _ _ (S m c) (iblk2_gate m c t) (iblk2_up m c t) r).trans ?_
  rw [iblk0_row, iblk1_all]
/-- What point `t` writes to output window 4 is its part of the result. -/
theorem point4 (c : Dev nD) (t : Fin cfg0.N) (y : S256x1728.Idx) :
    out0_4 (F := Ideal) (iblk m c 0 t) (iblk m c 1 t) (iblk m c 2 t) y = hc m c (((cfg0.win 4).blk t).view.emb y) := by
  obtain ⟨r, q, rfl⟩ := eta4 y
  unfold hc hCode
  rw [(emb4 t r q).1, (emb4 t r q).2]
  refine (out4_apply _ _ _ (S m c) (iblk2_gate m c t) (iblk2_up m c t) r q).trans ?_
  rw [iblk0_row, iblk1_all]
/-- What point `t` writes to output window 5 is its part of the result. -/
theorem point5 (c : Dev nD) (t : Fin cfg0.N) (y : S256x5120.Idx) :
    out0_5 (F := Ideal) (iblk m c 0 t) (iblk m c 1 t) (iblk m c 2 t) y = xc m c (((cfg0.win 5).blk t).view.emb y) := by
  obtain ⟨r, q, rfl⟩ := eta5 y
  unfold xc xCode
  rw [(emb5 t r q).1, (emb5 t r q).2]
  refine (out5_apply _ _ _ r q).trans ?_
  rw [iblk0_row]
/-- What point `t` writes to output window 6 is its part of the result. -/
theorem point6 (c : Dev nD) (t : Fin cfg0.N) (y : S256x1.Idx) :
    out0_6 (F := Ideal) (iblk m c 0 t) (iblk m c 1 t) (iblk m c 2 t) y = xs m c (((cfg0.win 6).blk t).view.emb y) := by
  obtain ⟨r, rfl⟩ := eta1 y
  unfold xs xScale
  rw [emb6 t r 0]
  refine (out6_apply _ _ _ r).trans ?_
  rw [iblk0_row]

/-- The hidden rows' scales after the run. -/
theorem final3 (c : Dev nD) : (dats m 0 c).arrAt 3 (cfgs 0).N = hs m c := by
  refine (dats m 0 c).arrAt_eq_of_covers 3 _ (by decide +kernel) fun t _ y => ?_
  blk_simp
  rw [after0_3]
  exact point3 m c t y
/-- The hidden rows' codes after the run. -/
theorem final4 (c : Dev nD) : (dats m 0 c).arrAt 4 (cfgs 0).N = hc m c := by
  refine (dats m 0 c).arrAt_eq_of_covers 4 _ (by decide +kernel) fun t _ y => ?_
  blk_simp
  rw [after0_4]
  exact point4 m c t y
/-- The input's codes after the run. -/
theorem final5 (c : Dev nD) : (dats m 0 c).arrAt 5 (cfgs 0).N = xc m c := by
  refine (dats m 0 c).arrAt_eq_of_covers 5 _ (by decide +kernel) fun t _ y => ?_
  blk_simp
  rw [after0_5]
  exact point5 m c t y
/-- The input's scales after the run. -/
theorem final6 (c : Dev nD) : (dats m 0 c).arrAt 6 (cfgs 0).N = xs m c := by
  refine (dats m 0 c).arrAt_eq_of_covers 6 _ (by decide +kernel) fun t _ y => ?_
  blk_simp
  rw [after0_6]
  exact point6 m c t y

end Cert.KernelIdeal.Arrays

end
-- ==== Proof.ReferenceRows.lean ====
/- What the reference's body computes, row by row: each of its vectors at a row and a column is the function
   of `Rows` of that row. -/
module

public import proofs.«01_k».proof.Proof.Gen.ReferenceIdeal.Frame
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.Pow2 Cert.Rows

/-! ## The body's vectors as scalar functions of a few vectors, for any float operations -/

section Generic

variable {F : FTy → Type} [FloatOps F]

/-- The count of the powers of two that are at most the row's ratio. -/
def cnt (t : FVec F S12288x1 .f32) : IVec S12288x1 32 :=
  shapeCast S12288x1 (multiReductionI .add [1] S12288
    (extui 32 (cmpf .oge (broadcastTo S12288x246 t broadcasts_S12288x1_S12288x246)
      (exp2 (sitofp .f32 (subi (iota .tc S12288x246 32 [1] iota_S12288x246_d1_w32) (broadcast S12288x246 126#32))))) natLt_1_32)
    0#32 reduces_S12288x246_S12288 rfl) shapeCasts_S12288_S12288x1

/-- The largest absolute value of each row of the input. -/
def mx (X : FVec F S12288x5120 .f32) : FVec F S12288x1 .f32 :=
  shapeCast S12288x1 (multiReduction .maximumf [1] S12288 (absf X) 0xFF800000#32 reduces_S12288x5120_S12288 (.inl rfl) rfl) shapeCasts_S12288_S12288x1

/-- The largest absolute value of each row of the hidden layer. -/
def mxh (X : FVec F S12288x1728 .f32) : FVec F S12288x1 .f32 :=
  shapeCast S12288x1 (multiReduction .maximumf [1] S12288 (absf X) 0xFF800000#32 reduces_S12288x1728_S12288 (.inl rfl) rfl) shapeCasts_S12288_S12288x1

/-- The ratio of each row. -/
def rat (a : FVec F S12288x1 .f32) : FVec F S12288x1 .f32 := fun j => FloatOps.mulf (a j) (FloatOps.ofBits .f32 0x3B124925#32)

/-- The exponent of each row's scale. -/
def ex (a : FVec F S12288x1 .f32) : IVec S12288x1 32 := fun i => expOf (a i) (rat a i) (cnt (rat a) i)

/-- The exponents of the input's rows. -/
theorem pay3 (X : FVec F S12288x5120 .bf16) : k0_pay3 X = ex (mx (k0_pay2 X)) := rfl
/-- The input's scales are those of its exponents. -/
theorem pay4 (X : FVec F S12288x5120 .bf16) : k0_pay4 X = fun i => expScale (k0_pay3 X i) := rfl
/-- The exponents of the hidden rows. -/
theorem pay7 (v32 : FVec F S12288x1 .f32) (v43 : FVec F S12288x5120 .fp8e4m3) (v44 : FVec F S5120x3456 .fp8e4m3) (v48 : FVec F S1x3456 .f32) :
    k0_pay7 v32 v43 v44 v48 = ex (mxh (k0_pay6 v32 v43 v44 v48)) := rfl
/-- The hidden rows' scales are those of their exponents. -/
theorem pay8 (v32 : FVec F S12288x1 .f32) (v43 : FVec F S12288x5120 .fp8e4m3) (v44 : FVec F S5120x3456 .fp8e4m3) (v48 : FVec F S1x3456 .f32) :
    k0_pay8 v32 v43 v44 v48 = fun i => expScale (k0_pay7 v32 v43 v44 v48 i) := rfl
/-- The negated exponents of the hidden rows. -/
theorem pay9 (v32 : FVec F S12288x1 .f32) (v43 : FVec F S12288x5120 .fp8e4m3) (v44 : FVec F S5120x3456 .fp8e4m3) (v48 : FVec F S1x3456 .f32) :
    k0_pay9 v32 v43 v44 v48 = fun i => IntOp.subi 0#32 (k0_pay7 v32 v43 v44 v48 i) := rfl

end Generic

/-! ## The rows at `Ideal` -/

/-- The largest absolute value of a row of the input. -/
theorem mx_apply (X : FVec Ideal S12288x5120 .f32) (r : Fin 12288) : mx X (ix2 r 0) = amax fun k => X (ix2 r k) := by
  pointwise [mx]; rfl

/-- The largest absolute value of a hidden row. -/
theorem mxh_apply (X : FVec Ideal S12288x1728 .f32) (r : Fin 12288) : mxh X (ix2 r 0) = amax fun k => X (ix2 r k) := by
  pointwise [mxh]; rfl

/-- The count of a row is the count of its ratio. -/
theorem cnt_apply (t : FVec Ideal S12288x1 .f32) (r : Fin 12288) : cnt t (ix2 r 0) = count (F := Ideal) (t (ix2 r 0)) := by
  pointwise [cnt]; rfl

/-- The cast of the input to float32 changes no value. -/
theorem pay2_apply (X : FVec Ideal S12288x5120 .bf16) (r : Fin 12288) (k : Fin 5120) : k0_pay2 (F := Ideal) X (ix2 r k) = X (ix2 r k) := by
  pointwise [k0_pay2]

/-- The exponent of a row's scale is the one `Rows` takes of the row's largest absolute value. -/
theorem ex_apply (a : FVec Ideal S12288x1 .f32) (r : Fin 12288) : ex a (ix2 r 0) = rowExp (a (ix2 r 0)) := by
  show expOf (F := Ideal) _ _ (cnt (rat a) (ix2 r 0)) = _
  rw [cnt_apply]; rfl

/-- The exponent of a row of the input, from its largest absolute value. -/
theorem pay3_apply (X : FVec Ideal S12288x5120 .bf16) (r : Fin 12288) :
    k0_pay3 (F := Ideal) X (ix2 r 0) = rowExp (amax fun k => X (ix2 r k)) := by
  rw [pay3, ex_apply, mx_apply]
  simp only [pay2_apply]

/-- The scale of each row of the input. -/
theorem xs_apply (X : FVec Ideal S12288x5120 .bf16) (r : Fin 12288) :
    k0_pay4 (F := Ideal) X (ix2 r 0) = rowScale (amax fun k => X (ix2 r k)) := by
  rw [pay4]; show expScale _ = _; rw [pay3_apply]; rfl

/-- The codes of each row of the input. -/
theorem xc_apply (X : FVec Ideal S12288x5120 .bf16) (r : Fin 12288) (k : Fin 5120) :
    k0_pay5 (F := Ideal) X (ix2 r k) = codes (fun k => X (ix2 r k)) k := by
  pointwise [k0_pay5, k0_pay2]
  rw [pay3_apply]; rfl

/-- The hidden layer at a row and a column. -/
theorem h_apply (a : FVec Ideal S12288x1 .f32) (q : FVec Ideal S12288x5120 .fp8e4m3) (w : FVec Ideal S5120x3456 .fp8e4m3) (s : FVec Ideal S1x3456 .f32)
    (r : Fin 12288) (c : Fin 1728) :
    k0_pay6 (F := Ideal) a q w s (ix2 r c)
      = swiglu (dotCol (fun k => q (ix2 r k)) (fun k => w (ix2 k ⟨c, by omega⟩)) (a (ix2 r 0)) (s (ix2 0 ⟨c, by omega⟩)))
        (dotCol (fun k => q (ix2 r k)) (fun k => w (ix2 k ⟨1728 + c, by omega⟩)) (a (ix2 r 0)) (s (ix2 0 ⟨1728 + c, by omega⟩))) := by
  pointwise [k0_pay6]; rfl

/-- The hidden layer made from the input's own scales and codes is `hRow` of the input's row. -/
theorem hidden_apply (X : FVec Ideal S12288x5120 .bf16) (w : FVec Ideal S5120x3456 .fp8e4m3) (s : FVec Ideal S1x3456 .f32)
    (r : Fin 12288) (c : Fin 1728) :
    k0_pay6 (F := Ideal) (k0_pay4 X) (k0_pay5 X) w s (ix2 r c)
      = hRow (fun k => X (ix2 r k)) (fun k c => w (ix2 k c)) (fun c => s (ix2 0 c)) c := by
  rw [h_apply, xs_apply]; simp only [xc_apply]; rfl

/-- The exponent of a hidden row, from its largest absolute value. -/
theorem pay7_apply (X : FVec Ideal S12288x5120 .bf16) (w : FVec Ideal S5120x3456 .fp8e4m3) (s : FVec Ideal S1x3456 .f32) (r : Fin 12288) :
    k0_pay7 (F := Ideal) (k0_pay4 X) (k0_pay5 X) w s (ix2 r 0)
      = rowExp (amax (hRow (fun k => X (ix2 r k)) (fun k c => w (ix2 k c)) (fun c => s (ix2 0 c)))) := by
  rw [pay7, ex_apply, mxh_apply]
  simp only [hidden_apply]

/-- The scale of each row of the hidden layer. -/
theorem hs_apply (X : FVec Ideal S12288x5120 .bf16) (w : FVec Ideal S5120x3456 .fp8e4m3) (s : FVec Ideal S1x3456 .f32) (r : Fin 12288) :
    k0_pay8 (F := Ideal) (k0_pay4 X) (k0_pay5 X) w s (ix2 r 0)
      = rowScale (amax (hRow (fun k => X (ix2 r k)) (fun k c => w (ix2 k c)) (fun c => s (ix2 0 c)))) := by
  rw [pay8]; show expScale _ = _; rw [pay7_apply]; rfl

/-- A code of the hidden layer, from its row's negated exponent. -/
theorem pay1_apply (h : FVec Ideal S12288x1728 .f32) (e : IVec S12288x1 32) (r : Fin 12288) (c : Fin 1728) :
    k0_pay1 (F := Ideal) h e (ix2 r c) = code (FloatOps.exp2 (F := Ideal) (FloatOps.sitofp (F := Ideal) .f32 (e (ix2 r 0)))) (h (ix2 r c)) := by
  pointwise [k0_pay1]; rfl

/-- The codes of each row of the hidden layer. -/
theorem hc_apply (X : FVec Ideal S12288x5120 .bf16) (w : FVec Ideal S5120x3456 .fp8e4m3) (s : FVec Ideal S1x3456 .f32) (r : Fin 12288) (c : Fin 1728) :
    k0_pay1 (F := Ideal) (k0_pay6 (k0_pay4 X) (k0_pay5 X) w s) (k0_pay9 (F := Ideal) (k0_pay4 X) (k0_pay5 X) w s) (ix2 r c)
      = codes (hRow (fun k => X (ix2 r k)) (fun k c => w (ix2 k c)) (fun c => s (ix2 0 c))) c := by
  rw [pay1_apply, hidden_apply, pay9]
  show code (FloatOps.exp2 (F := Ideal) (FloatOps.sitofp (F := Ideal) .f32 (IntOp.subi 0#32 _))) _ = _
  rw [pay7_apply]; rfl

end Cert.ReferenceIdeal.Rows

end
-- ==== Proof.ReferenceValue.lean ====
/- What the reference's output arrays hold after the run: the four results of `Rows` of the argument arrays.

   The reference is one step over whole arrays, so each array is what that step leaves in its block. -/
module

public import proofs.«01_k».proof.Proof.ReferenceRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ReferenceIdeal.Arrays

open Cert.ReferenceIdeal Cert.ReferenceIdeal.Gen Cert.ReferenceIdeal.Rows Cert.Rows
open Idealize.ShloMosaic.Pipeline (Dat)

variable (m : (ℓ : Loc nD τ sig) → Buf (Elt Ideal) ℓ)

/-! ## The arguments, by row and column -/

/-- The input, its first two axes taken as one. -/
def X (c : Dev nD) (r : Fin 12288) (k : Fin 5120) : EReal :=
  (m (c.tc.loc main_arg0) : FVec Ideal S6x2048x5120 .bf16) (ix3 ⟨r / 2048, by omega⟩ ⟨r % 2048, by omega⟩ k)
/-- The weight codes. -/
def W (c : Dev nD) (k : Fin 5120) (j : Fin 3456) : EReal := (m (c.tc.loc main_arg1) : FVec Ideal S5120x3456 .fp8e4m3) (ix2 k j)
/-- The weight scales. -/
def S (c : Dev nD) (j : Fin 3456) : EReal := (m (c.tc.loc main_arg2) : FVec Ideal S3456 .f32) (ix1 j)

/-! ## What the host operations leave in the staged arrays -/

/-- The staged input is the input reshaped. -/
theorem V_main_v0 (c : Dev nD) : V m c main_v0 = shapeCast S12288x5120 (m (c.tc.loc main_arg0)) shapeCasts_S6x2048x5120_S12288x5120 := by
  unfold V
  after_results
  rfl

/-- The staged scales are the scales reshaped. -/
theorem V_main_v1 (c : Dev nD) : V m c main_v1 = shapeCast S1x3456 (m (c.tc.loc main_arg2)) shapeCasts_S3456_S1x3456 := by
  unfold V
  after_results
  rfl

/-- The input with its first two axes taken as one, at a row and a column. -/
theorem reshape_apply (x : FVec Ideal S6x2048x5120 .bf16) (r : Fin 12288) (k : Fin 5120) :
    shapeCast S12288x5120 x shapeCasts_S6x2048x5120_S12288x5120 (ix2 r k) = x (ix3 ⟨r / 2048, by omega⟩ ⟨r % 2048, by omega⟩ k) := by
  pointwise []

/-- The scales as a row, at a column. -/
theorem reshape_scales (s : FVec Ideal S3456 .f32) (j : Fin 3456) : shapeCast S1x3456 s shapeCasts_S3456_S1x3456 (ix2 0 j) = s (ix1 j) := by
  pointwise []

/-! ## The blocks of the one point -/

/-- Every window holds its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The input's block is the whole array. -/
theorem iblk0 (c : Dev nD) (t : Fin cfg0.N) (r : Fin 12288) (k : Fin 5120) :
    (iblk m c 0 t : FVec Ideal S12288x5120 .bf16) (ix2 r k) = X m c r k := by
  have h : (iblk m c 0 t : FVec Ideal S12288x5120 .bf16) (ix2 r k) = (V m c main_v0 : FVec Ideal S12288x5120 .bf16) (ix2 r k) := by
    blk_point [iblk, V, idx t]
  rw [h, V_main_v0]
  exact reshape_apply _ r k

/-- The weights' block is the whole array. -/
theorem iblk1 (c : Dev nD) (t : Fin cfg0.N) (k : Fin 5120) (j : Fin 3456) :
    (iblk m c 1 t : FVec Ideal S5120x3456 .fp8e4m3) (ix2 k j) = W m c k j := by
  unfold W
  blk_point [iblk, V, idx t]

/-- The scales' block is the whole array. -/
theorem iblk2 (c : Dev nD) (t : Fin cfg0.N) (j : Fin 3456) :
    (iblk m c 2 t : FVec Ideal S1x3456 .f32) (ix2 0 j) = S m c j := by
  have h : (iblk m c 2 t : FVec Ideal S1x3456 .f32) (ix2 0 j) = (V m c main_v1 : FVec Ideal S1x3456 .f32) (ix2 0 j) := by
    blk_point [iblk, idx t]
  rw [h, V_main_v1]
  exact reshape_scales _ j

/-- A row of the input's block is a row of the input. -/
theorem iblk0_row (c : Dev nD) (t : Fin cfg0.N) (r : Fin 12288) :
    (fun k : Fin 5120 => (iblk m c 0 t : FVec Ideal S12288x5120 .bf16) (ix2 r k)) = X m c r := funext (iblk0 m c t r)
/-- The weights' block, as a function of row and column, is the weights. -/
theorem iblk1_all (c : Dev nD) (t : Fin cfg0.N) :
    (fun (k : Fin 5120) (j : Fin 3456) => (iblk m c 1 t : FVec Ideal S5120x3456 .fp8e4m3) (ix2 k j)) = W m c := funext fun k => funext (iblk1 m c t k)
/-- The scales' block, as a function of the column, is the scales. -/
theorem iblk2_all (c : Dev nD) (t : Fin cfg0.N) :
    (fun (j : Fin 3456) => (iblk m c 2 t : FVec Ideal S1x3456 .f32) (ix2 0 j)) = S m c := funext (iblk2 m c t)

/-! ## What the body leaves in each output window's block -/

section Out

variable (x0 : FVec Ideal S12288x5120 .bf16) (x1 : FVec Ideal S5120x3456 .fp8e4m3) (x2 : FVec Ideal S1x3456 .f32)

/-- The offsets of a block that starts at the origin. -/
theorem hz : (![0, 0] : Fin 2 → Nat) = fun _ => 0 := funext fun a => by fin_cases a <;> rfl

/-- The block of the hidden layer's scales. -/
theorem out3_apply (r : Fin 12288) :
    out0_3 (F := Ideal) x0 x1 x2 (ix2 r 0) = rowScale (amax (hRow (fun k => x0 (ix2 r k)) (fun k c => x1 (ix2 k c)) (fun c => x2 (ix2 0 c)))) := by
  unfold_out out0_3
  rw [View.canon_unit_zero hz, View.ld_unit_zero hz, View.ld_unit_zero hz, View.ld_unit_zero hz]
  exact Rows.hs_apply x0 x1 x2 r
/-- The block of the hidden layer's codes. -/
theorem out4_apply (r : Fin 12288) (c : Fin 1728) :
    out0_4 (F := Ideal) x0 x1 x2 (ix2 r c) = codes (hRow (fun k => x0 (ix2 r k)) (fun k c => x1 (ix2 k c)) (fun c => x2 (ix2 0 c))) c := by
  unfold_out out0_4
  rw [View.canon_unit_zero hz, View.ld_unit_zero hz, View.ld_unit_zero hz, View.ld_unit_zero hz]
  exact Rows.hc_apply x0 x1 x2 r c
/-- The block of the input's codes. -/
theorem out5_apply (r : Fin 12288) (k : Fin 5120) : out0_5 (F := Ideal) x0 x1 x2 (ix2 r k) = codes (fun k => x0 (ix2 r k)) k := by
  unfold_out out0_5
  rw [View.canon_unit_zero hz, View.ld_unit_zero hz]
  exact Rows.xc_apply x0 r k
/-- The block of the input's scales. -/
theorem out6_apply (r : Fin 12288) : out0_6 (F := Ideal) x0 x1 x2 (ix2 r 0) = rowScale (amax fun k => x0 (ix2 r k)) := by
  unfold_out out0_6
  rw [View.canon_unit_zero hz, View.ld_unit_zero hz]
  exact Rows.xs_apply x0 r

end Out

/-! ## The arrays -/

/-- Result 1. -/
def hs (c : Dev nD) : FVec Ideal S12288x1 .f32 := fun i => hScale (X m c) (W m c) (S m c) (i 0)
/-- Result 2. -/
def hc (c : Dev nD) : FVec Ideal S12288x1728 .fp8e4m3 := fun i => hCode (X m c) (W m c) (S m c) (i 0) (i 1)
/-- Result 3. -/
def xc (c : Dev nD) : FVec Ideal S12288x5120 .fp8e4m3 := fun i => xCode (X m c) (i 0) (i 1)
/-- Result 4. -/
def xs (c : Dev nD) : FVec Ideal S12288x1 .f32 := fun i => xScale (X m c) (i 0)

/-- Row and column of the array under row and column of the block, per output window. -/
theorem emb3 (t : Fin cfg0.N) (r : Fin 12288) (q : Fin 1) : (((cfg0.win 3).blk t).view.emb (ix2 r q : S12288x1.Idx)) 0 = r := by
  refine Fin.ext ?_
  blk_simp [idx t] <;> rfl
/-- The same for output window 4. -/
theorem emb4 (t : Fin cfg0.N) (r : Fin 12288) (q : Fin 1728) : (((cfg0.win 4).blk t).view.emb (ix2 r q : S12288x1728.Idx)) 0 = r ∧ (((cfg0.win 4).blk t).view.emb (ix2 r q : S12288x1728.Idx)) 1 = q := by
  refine ⟨Fin.ext ?_, Fin.ext ?_⟩
  · blk_simp [idx t] <;> rfl
  · blk_simp [idx t] <;> rfl
/-- The same for output window 5. -/
theorem emb5 (t : Fin cfg0.N) (r : Fin 12288) (q : Fin 5120) : (((cfg0.win 5).blk t).view.emb (ix2 r q : S12288x5120.Idx)) 0 = r ∧ (((cfg0.win 5).blk t).view.emb (ix2 r q : S12288x5120.Idx)) 1 = q := by
  refine ⟨Fin.ext ?_, Fin.ext ?_⟩
  · blk_simp [idx t] <;> rfl
  · blk_simp [idx t] <;> rfl
/-- The same for output window 6. -/
theorem emb6 (t : Fin cfg0.N) (r : Fin 12288) (q : Fin 1) : (((cfg0.win 6).blk t).view.emb (ix2 r q : S12288x1.Idx)) 0 = r := by
  refine Fin.ext ?_
  blk_simp [idx t] <;> rfl

/-- An index of a block is its row and its column. -/
theorem eta1 (y : S12288x1.Idx) : ∃ r : Fin 12288, y = ix2 r (0 : Fin 1) :=
  ⟨y 0, funext fun a => by fin_cases a; exacts [rfl, Subsingleton.elim (α := Fin 1) _ _]⟩
/-- The same for blocks of 1728 columns. -/
theorem eta4 (y : S12288x1728.Idx) : ∃ (r : Fin 12288) (q : Fin 1728), y = ix2 r q := ⟨y 0, y 1, funext fun a => by fin_cases a <;> rfl⟩
/-- The same for blocks of 5120 columns. -/
theorem eta5 (y : S12288x5120.Idx) : ∃ (r : Fin 12288) (q : Fin 5120), y = ix2 r q := ⟨y 0, y 1, funext fun a => by fin_cases a <;> rfl⟩

/-- What the point writes to output window 3 is its part of the result. -/
theorem point3 (c : Dev nD) (t : Fin cfg0.N) (y : S12288x1.Idx) :
    out0_3 (F := Ideal) (iblk m c 0 t) (iblk m c 1 t) (iblk m c 2 t) y = hs m c (((cfg0.win 3).blk t).view.emb y) := by
  obtain ⟨r, rfl⟩ := eta1 y
  unfold hs hScale
  rw [emb3 t r 0]
  refine (out3_apply _ _ _ r).trans ?_
  rw [iblk0_row, iblk1_all, iblk2_all]
/-- What the point writes to output window 4 is its part of the result. -/
theorem point4 (c : Dev nD) (t : Fin cfg0.N) (y : S12288x1728.Idx) :
    out0_4 (F := Ideal) (iblk m c 0 t) (iblk m c 1 t) (iblk m c 2 t) y = hc m c (((cfg0.win 4).blk t).view.emb y) := by
  obtain ⟨r, q, rfl⟩ := eta4 y
  unfold hc hCode
  rw [(emb4 t r q).1, (emb4 t r q).2]
  refine (out4_apply _ _ _ r q).trans ?_
  rw [iblk0_row, iblk1_all, iblk2_all]
/-- What the point writes to output window 5 is its part of the result. -/
theorem point5 (c : Dev nD) (t : Fin cfg0.N) (y : S12288x5120.Idx) :
    out0_5 (F := Ideal) (iblk m c 0 t) (iblk m c 1 t) (iblk m c 2 t) y = xc m c (((cfg0.win 5).blk t).view.emb y) := by
  obtain ⟨r, q, rfl⟩ := eta5 y
  unfold xc xCode
  rw [(emb5 t r q).1, (emb5 t r q).2]
  refine (out5_apply _ _ _ r q).trans ?_
  rw [iblk0_row]
/-- What the point writes to output window 6 is its part of the result. -/
theorem point6 (c : Dev nD) (t : Fin cfg0.N) (y : S12288x1.Idx) :
    out0_6 (F := Ideal) (iblk m c 0 t) (iblk m c 1 t) (iblk m c 2 t) y = xs m c (((cfg0.win 6).blk t).view.emb y) := by
  obtain ⟨r, rfl⟩ := eta1 y
  unfold xs xScale
  rw [emb6 t r 0]
  refine (out6_apply _ _ _ r).trans ?_
  rw [iblk0_row]

/-- The hidden rows' scales after the run. -/
theorem final3 (c : Dev nD) : (dats m 0 c).arrAt 3 (cfgs 0).N = hs m c := by
  refine (dats m 0 c).arrAt_eq_of_covers 3 _ (by decide +kernel) fun t _ y => ?_
  blk_simp
  rw [after0_3]
  exact point3 m c t y
/-- The hidden rows' codes after the run. -/
theorem final4 (c : Dev nD) : (dats m 0 c).arrAt 4 (cfgs 0).N = hc m c := by
  refine (dats m 0 c).arrAt_eq_of_covers 4 _ (by decide +kernel) fun t _ y => ?_
  blk_simp
  rw [after0_4]
  exact point4 m c t y
/-- The input's codes after the run. -/
theorem final5 (c : Dev nD) : (dats m 0 c).arrAt 5 (cfgs 0).N = xc m c := by
  refine (dats m 0 c).arrAt_eq_of_covers 5 _ (by decide +kernel) fun t _ y => ?_
  blk_simp
  rw [after0_5]
  exact point5 m c t y
/-- The input's scales after the run. -/
theorem final6 (c : Dev nD) : (dats m 0 c).arrAt 6 (cfgs 0).N = xs m c := by
  refine (dats m 0 c).arrAt_eq_of_covers 6 _ (by decide +kernel) fun t _ y => ?_
  blk_simp
  rw [after0_6]
  exact point6 m c t y

end Cert.ReferenceIdeal.Arrays

end
-- ==== Proof.Equation.lean ====
/- The algebraic claim: from memories that agree on the arguments, the kernel and the reference end with the same
   four arrays. Both runs are the generated ones; both arrays are the results of `Rows` of the arguments. -/
module

public import proofs.«01_k».proof.Defs
public import proofs.«01_k».proof.Proof.Gen.KernelIdeal
public import proofs.«01_k».proof.Proof.Gen.ReferenceIdeal
public import proofs.«01_k».proof.Proof.KernelValue
public import proofs.«01_k».proof.Proof.ReferenceValue
public import Idealize.ShloMosaic.Lib.Claim

@[expose] public section

set_option maxRecDepth 16384

noncomputable section

open Idealize.ShloMosaic Idealize.ShloMosaic.TcCoe Idealize.SL.Sem

namespace Cert.Equation

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal inputs have equal rows. -/
theorem X_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Arrays.X m' c = Cert.KernelIdeal.Arrays.X m c := by
  funext r k
  exact congrFun h _

/-- Equal weight codes. -/
theorem W_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Arrays.W m' c = Cert.KernelIdeal.Arrays.W m c := by
  funext k j
  exact congrFun h _

/-- Equal weight scales. -/
theorem S_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Arrays.S m' c = Cert.KernelIdeal.Arrays.S m c := by
  funext j
  exact congrFun h _

end Agree

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))

include h0 in
/-- The input's scales are equal. -/
theorem xs_eq : Cert.ReferenceIdeal.Arrays.xs m' c = Cert.KernelIdeal.Arrays.xs m c := by
  unfold Cert.ReferenceIdeal.Arrays.xs Cert.KernelIdeal.Arrays.xs
  rw [X_eq m m' c h0]
include h0 in
/-- The input's codes are equal. -/
theorem xc_eq : Cert.ReferenceIdeal.Arrays.xc m' c = Cert.KernelIdeal.Arrays.xc m c := by
  unfold Cert.ReferenceIdeal.Arrays.xc Cert.KernelIdeal.Arrays.xc
  rw [X_eq m m' c h0]
include h0 h1 h2 in
/-- The hidden rows' scales are equal. -/
theorem hs_eq : Cert.ReferenceIdeal.Arrays.hs m' c = Cert.KernelIdeal.Arrays.hs m c := by
  unfold Cert.ReferenceIdeal.Arrays.hs Cert.KernelIdeal.Arrays.hs
  rw [X_eq m m' c h0, W_eq m m' c h1, S_eq m m' c h2]
include h0 h1 h2 in
/-- The hidden rows' codes are equal. -/
theorem hc_eq : Cert.ReferenceIdeal.Arrays.hc m' c = Cert.KernelIdeal.Arrays.hc m c := by
  unfold Cert.ReferenceIdeal.Arrays.hc Cert.KernelIdeal.Arrays.hc
  rw [X_eq m m' c h0, W_eq m m' c h1, S_eq m m' c h2]

end Results

/-- The kernel and the reference end with equal results and unchanged arguments. -/
theorem algebraic : Cert.algebraic_KernelIdeal_ReferenceIdeal := by
  pair_intro
  · run_from Cert.KernelIdeal.Gen.run_main m g
    · exact Cert.KernelIdeal.Gen.V_main_arg0 m c
    · exact Cert.KernelIdeal.Gen.V_main_arg2 m c
  · run_from Cert.ReferenceIdeal.Gen.run_main m' g'
    · obtain ⟨h0, h1, h2⟩ := hagree c
      exact (Cert.ReferenceIdeal.Arrays.final3 m' c).trans ((hs_eq m m' c h0 h1 h2).trans (Cert.KernelIdeal.Arrays.final3 m c).symm)
    · obtain ⟨h0, h1, h2⟩ := hagree c
      exact (Cert.ReferenceIdeal.Arrays.final4 m' c).trans ((hc_eq m m' c h0 h1 h2).trans (Cert.KernelIdeal.Arrays.final4 m c).symm)
    · exact (Cert.ReferenceIdeal.Arrays.final5 m' c).trans ((xc_eq m m' c (hagree c).1).trans (Cert.KernelIdeal.Arrays.final5 m c).symm)
    · exact (Cert.ReferenceIdeal.Arrays.final6 m' c).trans ((xs_eq m m' c (hagree c).1).trans (Cert.KernelIdeal.Arrays.final6 m c).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Gen.frame m g,
  trivial,
  Cert.Equation.algebraic⟩

end Cert.Proof

end
